-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_counts_in_range [hPre_counts_in_range : Cert.Pre_counts_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_counts_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_counts_in_range [hPre_counts_in_range : Cert.Pre_counts_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_counts_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_counts_in_range [hKernelIdeal : Cert.KernelIdeal.Facts] [hPre_counts_in_range : Cert.Pre_counts_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_counts_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_counts_in_range [hReferenceIdeal : Cert.ReferenceIdeal.Facts] [hPre_counts_in_range : Cert.Pre_counts_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_counts_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_counts_in_range [hKernelIdeal : Cert.KernelIdeal.Facts] [hReferenceIdeal : Cert.ReferenceIdeal.Facts] [hPre_counts_in_range : Cert.Pre_counts_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_counts_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v17)) (v3 : (c : Dev Cert.KernelIdeal.nD) → Buf (Elt Ideal) ((c.tc : Thread Cert.KernelIdeal.nD Cert.KernelIdeal.τ).loc Cert.KernelIdeal.main_v18_0)) (v4 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_v18_0) = v3 c
          ∧ r.2.mem ((c.tc : Thread Cert.KernelIdeal.nD Cert.KernelIdeal.τ).loc Cert.KernelIdeal.main_v19) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_v9) = v2 c
          ∧ r.2.mem ((c.tc : Thread Cert.ReferenceIdeal.nD Cert.ReferenceIdeal.τ).loc Cert.ReferenceIdeal.main_v18) = v3 c
          ∧ r.2.mem ((c.tc : Thread Cert.ReferenceIdeal.nD Cert.ReferenceIdeal.τ).loc Cert.ReferenceIdeal.main_v16) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_counts_in_range : Cert.Pre_counts_in_range.Facts),
    quiescent_Kernel (hKernel := hKernel)
    ∧ quiescent_KernelIdeal (hKernelIdeal := hKernelIdeal)
    ∧ quiescent_KernelIdeal_pre_counts_in_range (hKernelIdeal := hKernelIdeal) (hPre_counts_in_range := hPre_counts_in_range)
    ∧ quiescent_ReferenceIdeal (hReferenceIdeal := hReferenceIdeal)
    ∧ quiescent_ReferenceIdeal_pre_counts_in_range (hReferenceIdeal := hReferenceIdeal) (hPre_counts_in_range := hPre_counts_in_range)
    ∧ preserves_Kernel_KernelIdeal
    ∧ algebraic_KernelIdeal_ReferenceIdeal_pre_counts_in_range (hKernelIdeal := hKernelIdeal) (hReferenceIdeal := hReferenceIdeal) (hPre_counts_in_range := hPre_counts_in_range)
-- ==== Pre_counts_in_range.lean ====
abbrev S4x540x960 : Shape := ⟨3, ![4, 540, 960]⟩
abbrev S4x500000 : Shape := ⟨2, ![4, 500000]⟩
abbrev S4x3x540x960 : Shape := ⟨4, ![4, 3, 540, 960]⟩
abbrev S_ : Shape := ⟨0, ![]⟩

class Facts : Prop where
  bcast_S_S4x540x960 : S_.BroadcastsInDim S4x540x960 (![] : Fin 0 → Fin S4x540x960.rank)
  reducesTo_S4x540x960_S_d0_1_2 : S4x540x960.ReducesTo [0, 1, 2] S_
  h_S_ : 0 < S_.numel

variable [Facts]

def fn {F : FTy → Type} [FloatOps F] (main_arg0 : IVec S4x540x960 32) (main_arg1 : IVec S4x500000 32) (main_arg2 : FVec F S4x3x540x960 .f32) (main_arg3 : FVec F S4x3x540x960 .f32) (main_arg4 : FVec F S4x3x540x960 .f32) (main_arg5 : FVec F S4x3x540x960 .f32) : IVec S_ 1 :=
  let main_c : IVec S_ 32 := constantI S_ 32 0#32
  let main_v0 : IVec S4x540x960 32 := broadcastInDim S4x540x960 ![] bcast_S_S4x540x960 main_c
  let main_v1 : IVec S4x540x960 1 := cmpi .sge main_arg0 main_v0
  let main_c_0 : IVec S_ 32 := constantI S_ 32 64#32
  let main_v2 : IVec S4x540x960 32 := broadcastInDim S4x540x960 ![] bcast_S_S4x540x960 main_c_0
  let main_v3 : IVec S4x540x960 1 := cmpi .slt main_arg0 main_v2
  let main_v4 : IVec S4x540x960 1 := andi main_v1 main_v3
  let main_c_1 : IVec S_ 1 := constantI S_ 1 1#1
  let main_v5 : IVec S_ 1 := (fun x v => Host.reduce IntOp.andi x v reducesTo_S4x540x960_S_d0_1_2 h_S_) main_v4 main_c_1
  main_v5
-- ==== Kernel.lean ====
abbrev S4x540x960 : Shape := ⟨3, ![4, 540, 960]⟩
abbrev S4x500000 : Shape := ⟨2, ![4, 500000]⟩
abbrev S4x3x540x960 : Shape := ⟨4, ![4, 3, 540, 960]⟩
abbrev S3x540x4x960 : Shape := ⟨4, ![3, 540, 4, 960]⟩
abbrev S1620x4x960 : Shape := ⟨3, ![1620, 4, 960]⟩
abbrev S270x4x960 : Shape := ⟨3, ![270, 4, 960]⟩
abbrev S540x4x960 : Shape := ⟨3, ![540, 4, 960]⟩
abbrev S270x2x4x960 : Shape := ⟨4, ![270, 2, 4, 960]⟩
abbrev S1080x60 : Shape := ⟨2, ![1080, 60]⟩
abbrev S4x1 : Shape := ⟨2, ![4, 1]⟩
abbrev S270x1x4x960 : Shape := ⟨4, ![270, 1, 4, 960]⟩
abbrev S1080x960 : Shape := ⟨2, ![1080, 960]⟩
abbrev S960x60 : Shape := ⟨2, ![960, 60]⟩
abbrev S1080x1 : Shape := ⟨2, ![1080, 1]⟩
abbrev S270x4x60 : Shape := ⟨3, ![270, 4, 60]⟩
abbrev S4x270x60 : Shape := ⟨3, ![4, 270, 60]⟩
abbrev S4x16200 : Shape := ⟨2, ![4, 16200]⟩
abbrev S4 : Shape := ⟨1, ![4]⟩
abbrev S4x1x1 : Shape := ⟨3, ![4, 1, 1]⟩
abbrev S4x16384 : Shape := ⟨2, ![4, 16384]⟩
abbrev S8x128 : Shape := ⟨2, ![8, 128]⟩

abbrev nBuf : Space → Nat
  | .hbm => 28
  | .vmem => 19
  | .smem => 0
  | _ => 0

abbrev bufTy : (tb : Table) → Fin (tcTables nBuf tb) → BufTy
  | .hbm, ⟨0, _⟩ => ⟨S4x540x960, .i32⟩
  | .hbm, ⟨1, _⟩ => ⟨S4x500000, .i32⟩
  | .hbm, ⟨2, _⟩ => ⟨S4x3x540x960, .f32⟩
  | .hbm, ⟨3, _⟩ => ⟨S4x3x540x960, .f32⟩
  | .hbm, ⟨4, _⟩ => ⟨S4x3x540x960, .f32⟩
  | .hbm, ⟨5, _⟩ => ⟨S4x3x540x960, .f32⟩
  | .hbm, ⟨6, _⟩ => ⟨S3x540x4x960, .f32⟩
  | .hbm, ⟨7, _⟩ => ⟨S1620x4x960, .f32⟩
  | .hbm, ⟨8, _⟩ => ⟨S3x540x4x960, .f32⟩
  | .hbm, ⟨9, _⟩ => ⟨S1620x4x960, .f32⟩
  | .hbm, ⟨10, _⟩ => ⟨S3x540x4x960, .f32⟩
  | .hbm, ⟨11, _⟩ => ⟨S1620x4x960, .f32⟩
  | .hbm, ⟨12, _⟩ => ⟨S3x540x4x960, .f32⟩
  | .hbm, ⟨13, _⟩ => ⟨S1620x4x960, .f32⟩
  | .hbm, ⟨14, _⟩ => ⟨S1620x4x960, .f32⟩
  | .hbm, ⟨15, _⟩ => ⟨S3x540x4x960, .f32⟩
  | .hbm, ⟨16, _⟩ => ⟨S4x3x540x960, .f32⟩
  | .hbm, ⟨17, _⟩ => ⟨S540x4x960, .i32⟩
  | .hbm, ⟨18, _⟩ => ⟨S270x2x4x960, .i32⟩
  | .hbm, ⟨19, _⟩ => ⟨S1080x60, .i32⟩
  | .hbm, ⟨20, _⟩ => ⟨S4x1, .i32⟩
  | .hbm, ⟨21, _⟩ => ⟨S270x4x60, .i32⟩
  | .hbm, ⟨22, _⟩ => ⟨S4x270x60, .i32⟩
  | .hbm, ⟨23, _⟩ => ⟨S4x16200, .i32⟩
  | .hbm, ⟨24, _⟩ => ⟨S4, .i32⟩
  | .hbm, ⟨25, _⟩ => ⟨S4x500000, .i32⟩
  | .hbm, ⟨26, _⟩ => ⟨S4x1x1, .i32⟩
  | .hbm, ⟨27, _⟩ => ⟨S4, .i32⟩
  | .local _ .vmem, ⟨0, _⟩ => ⟨S270x4x960, .f32⟩
  | .local _ .vmem, ⟨1, _⟩ => ⟨S270x4x960, .f32⟩
  | .local _ .vmem, ⟨2, _⟩ => ⟨S270x4x960, .f32⟩
  | .local _ .vmem, ⟨3, _⟩ => ⟨S270x4x960, .f32⟩
  | .local _ .vmem, ⟨4, _⟩ => ⟨S270x4x960, .f32⟩
  | .local _ .vmem, ⟨5, _⟩ => ⟨S270x4x960, .f32⟩
  | .local _ .vmem, ⟨6, _⟩ => ⟨S270x4x960, .f32⟩
  | .local _ .vmem, ⟨7, _⟩ => ⟨S270x4x960, .f32⟩
  | .local _ .vmem, ⟨8, _⟩ => ⟨S270x4x960, .f32⟩
  | .local _ .vmem, ⟨9, _⟩ => ⟨S270x4x960, .f32⟩
  | .local _ .vmem, ⟨10, _⟩ => ⟨S270x2x4x960, .i32⟩
  | .local _ .vmem, ⟨11, _⟩ => ⟨S1080x60, .i32⟩
  | .local _ .vmem, ⟨12, _⟩ => ⟨S4x1, .i32⟩
  | .local _ .vmem, ⟨13, _⟩ => ⟨S4x16384, .i32⟩
  | .local _ .vmem, ⟨14, _⟩ => ⟨S4x16384, .i32⟩
  | .local _ .vmem, ⟨15, _⟩ => ⟨S4x16384, .i32⟩
  | .local _ .vmem, ⟨16, _⟩ => ⟨S4x16384, .i32⟩
  | .local _ .vmem, ⟨17, _⟩ => ⟨S4x1x1, .i32⟩
  | .local _ .vmem, ⟨18, _⟩ => ⟨S8x128, .i32⟩
  | _, _ => ⟨S4x540x960, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem1_0 : DmaSem sig := 11
abbrev cc1_sem2_0 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S270x4x960 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S270x4x960 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S270x4x960 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S270x4x960 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S270x4x960 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![1], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S270x2x4x960 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1080x60 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4x1 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![31], ![false]⟩

def k2_cond2 (i : grid2.Coords) : BitVec 1 :=
  let arg0 : BitVec 32 := BitVec.ofNat 32 (i 0).val
  let c30_i32 : BitVec 32 := 30#32
  let v99 : BitVec 1 := Scalar.cmpi .eq arg0 c30_i32
  let v100 : BitVec 32 := Scalar.extui v99
  let c0_i32_37 : BitVec 32 := 0#32
  let v101 : BitVec 1 := Scalar.cmpi .ne v100 c0_i32_37
  v101

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage2_0 : Fin 2 → Memref sig .tc .vmem S4x16384 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4x16384 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4x1x1 .i32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]
-- ==== ReferenceIdeal.lean ====
abbrev S4x540x960 : Shape := ⟨3, ![4, 540, 960]⟩
abbrev S4x500000 : Shape := ⟨2, ![4, 500000]⟩
abbrev S4x3x540x960 : Shape := ⟨4, ![4, 3, 540, 960]⟩
abbrev S_ : Shape := ⟨0, ![]⟩
abbrev S4x270x2x60x16 : Shape := ⟨5, ![4, 270, 2, 60, 16]⟩
abbrev S4x270x60 : Shape := ⟨3, ![4, 270, 60]⟩
abbrev S4x16200 : Shape := ⟨2, ![4, 16200]⟩
abbrev S4x1 : Shape := ⟨2, ![4, 1]⟩
abbrev S4 : Shape := ⟨1, ![4]⟩
abbrev S4x16199 : Shape := ⟨2, ![4, 16199]⟩

abbrev nBuf : Space → Nat
  | .hbm => 34
  | .vmem => 0
  | .smem => 0
  | _ => 0

abbrev bufTy : (tb : Table) → Fin (tcTables nBuf tb) → BufTy
  | .hbm, ⟨0, _⟩ => ⟨S4x540x960, .i32⟩
  | .hbm, ⟨1, _⟩ => ⟨S4x500000, .i32⟩
  | .hbm, ⟨2, _⟩ => ⟨S4x3x540x960, .f32⟩
  | .hbm, ⟨3, _⟩ => ⟨S4x3x540x960, .f32⟩
  | .hbm, ⟨4, _⟩ => ⟨S4x3x540x960, .f32⟩
  | .hbm, ⟨5, _⟩ => ⟨S4x3x540x960, .f32⟩
  | .hbm, ⟨6, _⟩ => ⟨S4x3x540x960, .f32⟩
  | .hbm, ⟨7, _⟩ => ⟨S4x3x540x960, .f32⟩
  | .hbm, ⟨8, _⟩ => ⟨S4x3x540x960, .f32⟩
  | .hbm, ⟨9, _⟩ => ⟨S_, .i32⟩
  | .hbm, ⟨10, _⟩ => ⟨S_, .i32⟩
  | .hbm, ⟨11, _⟩ => ⟨S4x540x960, .i32⟩
  | .hbm, ⟨12, _⟩ => ⟨S4x270x2x60x16, .i32⟩
  | .hbm, ⟨13, _⟩ => ⟨S_, .i32⟩
  | .hbm, ⟨14, _⟩ => ⟨S4x270x60, .i32⟩
  | .hbm, ⟨15, _⟩ => ⟨S4x16200, .i32⟩
  | .hbm, ⟨16, _⟩ => ⟨S_, .i32⟩
  | .hbm, ⟨17, _⟩ => ⟨S_, .i32⟩
  | .hbm, ⟨18, _⟩ => ⟨S4x16200, .i32⟩
  | .hbm, ⟨19, _⟩ => ⟨S4x1, .i32⟩
  | .hbm, ⟨20, _⟩ => ⟨S4, .i32⟩
  | .hbm, ⟨21, _⟩ => ⟨S4x16199, .i32⟩
  | .hbm, ⟨22, _⟩ => ⟨S4x1, .i32⟩
  | .hbm, ⟨23, _⟩ => ⟨S_, .i32⟩
  | .hbm, ⟨24, _⟩ => ⟨S4x1, .i32⟩
  | .hbm, ⟨25, _⟩ => ⟨S4x16200, .i32⟩
  | .hbm, ⟨26, _⟩ => ⟨S_, .i32⟩
  | .hbm, ⟨27, _⟩ => ⟨S_, .i32⟩
  | .hbm, ⟨28, _⟩ => ⟨S4x500000, .i32⟩
  | .hbm, ⟨29, _⟩ => ⟨S4x1, .i32⟩
  | .hbm, ⟨30, _⟩ => ⟨S4, .i32⟩
  | .hbm, ⟨31, _⟩ => ⟨S_, .i32⟩
  | .hbm, ⟨32, _⟩ => ⟨S4x500000, .i32⟩
  | .hbm, ⟨33, _⟩ => ⟨S4x500000, .i32⟩
  | _, _ => ⟨S4x540x960, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_call1_call0_c : Ref sig .tc := ⟨.hbm, 16, rfl⟩
abbrev main_call1_call0_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_call2_call0_c : Ref sig .tc := ⟨.hbm, 26, rfl⟩
abbrev main_call2_call0_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩

abbrev nD : Nat := 1
abbrev τ : Topo := Topo.v7x

variable {F : FTy → Type} [FloatOps F]
-- ==== Proof.Ew.lean ====
/- The reweighting call: every grid point multiplies and adds its blocks of the four images, whatever the arrays hold
   when the call is entered. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit
public import Idealize.ShloMosaic.Lib.Tactic
public import Idealize.ShloMosaic.Lib.WordCmp

@[expose] public section

set_option maxRecDepth 16384

noncomputable section

namespace Cert.KernelIdeal.Ew

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

/-- The whole block, as the body loads and stores it. -/
abbrev whole : Rect S270x4x960 := Rect.unit (s := S270x4x960) ![0, 0, 0] S270x4x960.size inb_S270x4x960_S270x4x960_0_0_0

set_option maxHeartbeats 1000000 in
/-- The body reads four blocks and leaves the sum of the two products in the fifth. -/
theorem body_triple (c : Dev nD) (E : Set ℕ) (i : grid0.Coords)
    (arg1 : Memref sig .tc .vmem S270x4x960 .f32) (harg1 : arg1.IsWhole) (arg2 : Memref sig .tc .vmem S270x4x960 .f32) (harg2 : arg2.IsWhole)
    (arg3 : Memref sig .tc .vmem S270x4x960 .f32) (harg3 : arg3.IsWhole) (arg4 : Memref sig .tc .vmem S270x4x960 .f32) (harg4 : arg4.IsWhole)
    (arg5 : Memref sig .tc .vmem S270x4x960 .f32) (harg5 : arg5.IsWhole)
    (x y z w : Vec F S270x4x960 .f32) (K : PUnit → sProp 𝕄) :
    iprop(owns (c : Thread nD τ) arg1 fullShare x ∗ owns (c : Thread nD τ) arg2 fullShare y ∗ owns (c : Thread nD τ) arg3 fullShare z
        ∗ owns (c : Thread nD τ) arg4 fullShare w ∗ (∃ d, owns (c : Thread nD τ) arg5 fullShare d)
        ∗ (iprop(owns (c : Thread nD τ) arg1 fullShare x ∗ owns (c : Thread nD τ) arg2 fullShare y ∗ owns (c : Thread nD τ) arg3 fullShare z
          ∗ owns (c : Thread nD τ) arg4 fullShare w ∗ owns (c : Thread nD τ) arg5 fullShare (k0_pay1 x y z w)) -∗ K ⟨⟩))
      ⊢ wp frame (wpE (defs₀ (F := F)) Variants.none c none) E (cc0__ew_body i arg1 harg1 arg2 harg2 arg3 harg3 arg4 harg4 arg5 harg5) K := by
  simp only [cc0__ew_body_eq_skeleton]; unfold cc0__ew_body_skel owns
  iintro ⟨⟨%fx, %hx, Hx⟩, ⟨%fy, %hy, Hy⟩, ⟨%fz, %hz, Hz⟩, ⟨%fw, %hw, Hw⟩, ⟨%d, %fo, -, Ho⟩, Hk⟩
  subst hx hy hz hw
  sl_exec
  sl_step
  iapply Hk
  isplitl [Hx]
  · iexists fx; isplitr; · ipureintro; rfl
    iexact Hx
  isplitl [Hy]
  · iexists fy; isplitr; · ipureintro; rfl
    iexact Hy
  isplitl [Hz]
  · iexists fz; isplitr; · ipureintro; rfl
    iexact Hz
  isplitl [Hw]
  · iexists fw; isplitr; · ipureintro; rfl
    iexact Hw
  iexists _; isplitr
  swap; · iexact Ho
  ipureintro
  refine (View.read_writes_eq_canon _ _ _ (View.cover_of_tiled [⟨whole, _⟩] S270x4x960.size (by rfl))).trans ?_
  have h0 : ∀ a, (![0, 0, 0] : Fin 3 → Nat) a = 0 := by decide
  refine (View.canon_cons_unit_lit (S := S270x4x960) _ _ [] h0).trans ?_
  have hl (u : Vec F S270x4x960 .f32) : View.ld u whole = u := View.ld_unit_lit (S := S270x4x960) _ u h0
  exact (congr (congr (congr (congrArg k0_pay1 (hl _)) (hl _)) (hl _)) (hl _))

section Region

variable (V : (c : Dev nD) → (b : Ref sig .tc) → Buf (Elt F) ((c : Thread nD τ).loc b))

/-- The block of window `w` at point `t`, of its array as the call finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The call's data: inputs stay, the output block is the sum of the products of the input blocks. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => k0_pay1 (blockAt V c 0 t) (blockAt V c 1 t) (blockAt V c 2 t) (blockAt V c 3 t)
  Φ _ := Pipeline.ΦA spec0 c
  q _ := fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = blockAt V c 0 t := by dsimp only [dat]
theorem after_1 (c : Dev nD) (t : Fin cfg0.N) : (dat V c).after 1 t = blockAt V c 1 t := by dsimp only [dat]
theorem after_2 (c : Dev nD) (t : Fin cfg0.N) : (dat V c).after 2 t = blockAt V c 2 t := by dsimp only [dat]
theorem after_3 (c : Dev nD) (t : Fin cfg0.N) : (dat V c).after 3 t = blockAt V c 3 t := by dsimp only [dat]
theorem after_4 (c : Dev nD) (t : Fin cfg0.N) :
    (dat V c).after 4 t = k0_pay1 (blockAt V c 0 t) (blockAt V c 1 t) (blockAt V c 2 t) (blockAt V c 3 t) := by dsimp only [dat]

/-- Every input window's staging buffer holds its block when the body starts. -/
theorem before_0 (c : Dev nD) (t : Fin cfg0.N) (d) : (dat V c).before 0 t d = blockAt V c 0 t :=
  ((dat V c).before_in_eq_fetched 0 rfl (fun _ => rfl) (fun _ _ _ => rfl)
    (fun t => by rw [after_0]; unfold Dat.blockOf blockAt; rw [A_eq]) t d).trans (by unfold Dat.fetched Dat.blockOf blockAt; rw [A_eq]; rfl)
theorem before_1 (c : Dev nD) (t : Fin cfg0.N) (d) : (dat V c).before 1 t d = blockAt V c 1 t :=
  ((dat V c).before_in_eq_fetched 1 rfl (fun _ => rfl) (fun _ _ _ => rfl)
    (fun t => by rw [after_1]; unfold Dat.blockOf blockAt; rw [A_eq]) t d).trans (by unfold Dat.fetched Dat.blockOf blockAt; rw [A_eq]; rfl)
theorem before_2 (c : Dev nD) (t : Fin cfg0.N) (d) : (dat V c).before 2 t d = blockAt V c 2 t :=
  ((dat V c).before_in_eq_fetched 2 rfl (fun _ => rfl) (fun _ _ _ => rfl)
    (fun t => by rw [after_2]; unfold Dat.blockOf blockAt; rw [A_eq]) t d).trans (by unfold Dat.fetched Dat.blockOf blockAt; rw [A_eq]; rfl)
theorem before_3 (c : Dev nD) (t : Fin cfg0.N) (d) : (dat V c).before 3 t d = blockAt V c 3 t :=
  ((dat V c).before_in_eq_fetched 3 rfl (fun _ => rfl) (fun _ _ _ => rfl)
    (fun t => by rw [after_3]; unfold Dat.blockOf blockAt; rw [A_eq]) t d).trans (by unfold Dat.fetched Dat.blockOf blockAt; rw [A_eq]; rfl)

/-- The body's row of the table at a point's slots. -/
theorem row (t : Fin cfg0.N) : defs₀ (F := F) .tc cfg0.body (cfg0.bodyArgs t (cfg0.slots t)) = bodyAt0 t := by
  unfold defs₀; rw [Defs.onTc_tc]

/-- The body at any point of the grid, its windows one by one. -/
theorem point_triple (c : Dev nD) (t : Fin cfg0.N) :
    iprop((dat V c).Φ t.castSucc ∗ (dat V c).owesAt () t.castSucc
      ∗ (∃ d, owns (c : Thread nD τ) (st0_0 t) fullShare ((dat V c).before 0 t d))
      ∗ (∃ d, owns (c : Thread nD τ) (st0_1 t) fullShare ((dat V c).before 1 t d))
      ∗ (∃ d, owns (c : Thread nD τ) (st0_2 t) fullShare ((dat V c).before 2 t d))
      ∗ (∃ d, owns (c : Thread nD τ) (st0_3 t) fullShare ((dat V c).before 3 t d))
      ∗ (∃ d, owns (c : Thread nD τ) (st0_4 t) fullShare ((dat V c).before 4 t d)))
    ⊢ wp frame (wpE (defs₀ (F := F)) Variants.none c none) Set.univ (bodyAt0 t) (fun _ =>
      iprop((dat V c).Φ t.succ ∗ (dat V c).owesAt () t.succ
        ∗ owns (c : Thread nD τ) (st0_0 t) fullShare ((dat V c).after 0 t)
        ∗ owns (c : Thread nD τ) (st0_1 t) fullShare ((dat V c).after 1 t)
        ∗ owns (c : Thread nD τ) (st0_2 t) fullShare ((dat V c).after 2 t)
        ∗ owns (c : Thread nD τ) (st0_3 t) fullShare ((dat V c).after 3 t)
        ∗ owns (c : Thread nD τ) (st0_4 t) fullShare ((dat V c).after 4 t))) := by
  unfold bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (body_triple c Set.univ (grid0.coords t) _ _ _ _ _ _ _ _ _ _ (blockAt V c 0 t) (blockAt V c 1 t) (blockAt V c 2 t) (blockAt V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The call's obligation. -/
theorem obligation (c : Dev nD) : BodyObligation (dat (F := F) V c) (defs₀ (F := F)) Variants.none () Set.univ := fun t => by
  rw [bigSep_W0, bigSep_W0, row]
  exact triple_restated (point_triple V c t) rfl .rfl fun _ => .rfl

end Region

end Cert.KernelIdeal.Ew

end
-- ==== Proof.Tile.lean ====
/- The tile call: one grid point holds the whole counts, sums them over tiles of 2 × 16 pixels and makes the running
   sums over the tiles, whatever the array holds when the call is entered. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit
public import Idealize.ShloMosaic.Lib.Tactic
public import Idealize.ShloMosaic.Lib.WordCmp

@[expose] public section

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

/-- The even image rows of the counts, -/
abbrev evens : Rect S270x2x4x960 := Rect.unit (s := S270x2x4x960) ![0, 0, 0, 0] S270x1x4x960.size inb_S270x2x4x960_S270x1x4x960_0_0_0_0
/-- the odd ones, -/
abbrev odds : Rect S270x2x4x960 := Rect.unit (s := S270x2x4x960) ![0, 1, 0, 0] S270x1x4x960.size inb_S270x2x4x960_S270x1x4x960_0_1_0_0
/-- the whole first result -/
abbrev wholeSums : Rect S1080x60 := Rect.unit (s := S1080x60) ![0, 0] S1080x60.size inb_S1080x60_S1080x60_0_0
/-- and the whole second. -/
abbrev wholeLast : Rect S4x1 := Rect.unit (s := S4x1) ![0, 0] S4x1.size inb_S4x1_S4x1_0_0

/-- The tile column of every entry, -/
abbrev colNo : IVec S1080x60 32 := iota .tc S1080x60 32 [1] iota_S1080x60_d1_w32
/-- its row, -/
abbrev rowNo : IVec S1080x1 32 := iota .tc S1080x1 32 [0] iota_S1080x1_d0_w32
/-- the column sums after three of their six steps, -/
def part (x : Vec F S270x2x4x960 .i32) : IVec S1080x60 32 := k1_pay2 (View.ld x evens) (View.ld x odds)
/-- the column sums, -/
def colSums (x : Vec F S270x2x4x960 .i32) : IVec S1080x60 32 := k1_pay3 colNo (part x)
/-- every row's total, -/
def total (x : Vec F S270x2x4x960 .i32) : IVec S1080x1 32 := k1_pay4 colNo (part x)
/-- the totals summed over the rows above, -/
def rowSums (x : Vec F S270x2x4x960 .i32) : IVec S1080x1 32 := k1_pay7 rowNo (k1_pay5 colNo (part x)) k1_pay6 32#32
/-- the sums over all tiles up to an entry's, -/
def incl (x : Vec F S270x2x4x960 .i32) : IVec S1080x60 32 := k1_pay8 (colSums x) (total x) rowNo (k1_pay5 colNo (part x)) k1_pay6 32#32
/-- over all tiles before it -/
def excl (x : Vec F S270x2x4x960 .i32) : IVec S1080x60 32 := k1_pay1 colNo rowNo (rowSums x) (incl x) k1_pay10
/-- and over all tiles. -/
def grand (x : Vec F S270x2x4x960 .i32) : IVec S4x1 32 := k1_pay9 (colSums x) (total x) rowNo (k1_pay5 colNo (part x)) k1_pay6 32#32

set_option maxHeartbeats 1000000 in
/-- The body reads the counts and leaves the sums. -/
theorem body_triple (c : Dev nD) (E : Set ℕ) (i : grid1.Coords)
    (arg1 : Memref sig .tc .vmem S270x2x4x960 .i32) (harg1 : arg1.IsWhole) (arg2 : Memref sig .tc .vmem S1080x60 .i32) (harg2 : arg2.IsWhole)
    (arg3 : Memref sig .tc .vmem S4x1 .i32) (harg3 : arg3.IsWhole) (x : Vec F S270x2x4x960 .i32) (K : PUnit → sProp 𝕄) :
    iprop(owns (c : Thread nD τ) arg1 fullShare x ∗ (∃ d, owns (c : Thread nD τ) arg2 fullShare d) ∗ (∃ d, owns (c : Thread nD τ) arg3 fullShare d)
        ∗ (iprop(owns (c : Thread nD τ) arg1 fullShare x ∗ owns (c : Thread nD τ) arg2 fullShare (excl x : Vec F S1080x60 .i32)
          ∗ owns (c : Thread nD τ) arg3 fullShare (grand x : Vec F S4x1 .i32)) -∗ K ⟨⟩))
      ⊢ wp frame (wpE (defs₀ (F := F)) Variants.none c none) E (cc1__tile_body i arg1 harg1 arg2 harg2 arg3 harg3) K := by
  simp only [cc1__tile_body_eq_skeleton]; unfold cc1__tile_body_skel
  simp only [k1_part1_eq_skeleton, k1_part2_eq_skeleton, k1_part3_eq_skeleton]
  unfold owns
  iintro ⟨⟨%fx, %hx, Hx⟩, ⟨%d1, %f1, -, H1⟩, ⟨%d2, %f2, -, H2⟩, Hk⟩
  subst hx
  sl_exec
  sl_step
  have h0 : ∀ a, (![0, 0] : Fin 2 → Nat) a = 0 := by decide
  iapply Hk
  isplitl [Hx]
  · iexists fx; isplitr; · ipureintro; rfl
    iexact Hx
  isplitl [H1]
  · iexists _; isplitr
    swap; · iexact H1
    ipureintro
    refine (View.read_writes_eq_canon _ _ _ (View.cover_of_tiled [⟨wholeSums, _⟩] S1080x60.size (by rfl))).trans ?_
    refine (View.canon_cons_unit_lit _ _ [] h0).trans ?_
    rfl
  iexists _; isplitr
  swap; · iexact H2
  ipureintro
  refine (View.read_writes_eq_canon _ _ _ (View.cover_of_tiled [⟨wholeLast, _⟩] S4x1.size (by rfl))).trans ?_
  refine (View.canon_cons_unit_lit _ _ [] h0).trans ?_
  rfl

section Region

variable (V : (c : Dev nD) → (b : Ref sig .tc) → Buf (Elt F) ((c : Thread nD τ).loc b))

/-- The block of window `w` at point `t`, of its array as the call finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The call's data: the counts stay, the outputs are their sums. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => (excl (blockAt V c 0 t) : Vec F S1080x60 .i32)
    | ⟨2, _⟩ => (grand (blockAt V c 0 t) : Vec F S4x1 .i32)
  Φ _ := Pipeline.ΦA spec1 c
  q _ := fullShare
  owed _ := 0

theorem A_eq (c : Dev nD) (w : Fin cfg1.W) : (dat V c).A w = V c (Pipeline.arrRef spec1 w) := by dsimp only [dat]
theorem after_0 (c : Dev nD) (t : Fin cfg1.N) : (dat V c).after 0 t = blockAt V c 0 t := by dsimp only [dat]
theorem after_1 (c : Dev nD) (t : Fin cfg1.N) : (dat V c).after 1 t = (excl (blockAt V c 0 t) : Vec F S1080x60 .i32) := by dsimp only [dat]
theorem after_2 (c : Dev nD) (t : Fin cfg1.N) : (dat V c).after 2 t = (grand (blockAt V c 0 t) : Vec F S4x1 .i32) := by dsimp only [dat]

/-- The input's staging buffer holds its block when the body starts. -/
theorem before_0 (c : Dev nD) (t : Fin cfg1.N) (d) : (dat V c).before 0 t d = blockAt V c 0 t :=
  ((dat V c).before_in_eq_fetched 0 rfl (fun _ => rfl) (fun _ _ _ => rfl)
    (fun t => by rw [after_0]; unfold Dat.blockOf blockAt; rw [A_eq]) t d).trans (by unfold Dat.fetched Dat.blockOf blockAt; rw [A_eq]; rfl)

/-- The body's row of the table at a point's slots. -/
theorem row (t : Fin cfg1.N) : defs₀ (F := F) .tc cfg1.body (cfg1.bodyArgs t (cfg1.slots t)) = bodyAt1 t := by
  unfold defs₀; rw [Defs.onTc_tc]

/-- The body at the grid's point, its windows one by one. -/
theorem point_triple (c : Dev nD) (t : Fin cfg1.N) :
    iprop((dat V c).Φ t.castSucc ∗ (dat V c).owesAt () t.castSucc
      ∗ (∃ d, owns (c : Thread nD τ) (st1_0 t) fullShare ((dat V c).before 0 t d))
      ∗ (∃ d, owns (c : Thread nD τ) (st1_1 t) fullShare ((dat V c).before 1 t d))
      ∗ (∃ d, owns (c : Thread nD τ) (st1_2 t) fullShare ((dat V c).before 2 t d)))
    ⊢ wp frame (wpE (defs₀ (F := F)) Variants.none c none) Set.univ (bodyAt1 t) (fun _ =>
      iprop((dat V c).Φ t.succ ∗ (dat V c).owesAt () t.succ
        ∗ owns (c : Thread nD τ) (st1_0 t) fullShare ((dat V c).after 0 t)
        ∗ owns (c : Thread nD τ) (st1_1 t) fullShare ((dat V c).after 1 t)
        ∗ owns (c : Thread nD τ) (st1_2 t) fullShare ((dat V c).after 2 t))) := by
  unfold bodyAt1
  simp only [before_0]
  rw [show (dat V c).Φ t.succ = (dat V c).Φ t.castSucc from rfl,
    show (dat V c).owesAt () t.succ = (dat V c).owesAt () t.castSucc from rfl, after_0, after_1, after_2]
  iintro ⟨HΦ, Ho, ⟨%d0, H0⟩, ⟨%d1, H1⟩, ⟨%d2, H2⟩⟩
  iapply (body_triple c Set.univ (grid1.coords t) _ _ _ _ _ _ (blockAt V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The call's obligation. -/
theorem obligation (c : Dev nD) : BodyObligation (dat (F := F) V c) (defs₀ (F := F)) Variants.none () Set.univ := fun t => by
  rw [bigSep_W1, bigSep_W1, row]
  exact triple_restated (point_triple V c t) rfl .rfl fun _ => .rfl

end Region

end Cert.KernelIdeal.Tile

end
-- ==== Proof.Scan.lean ====
/- The arithmetic of a running sum taken by doubling: a sequence of shifted additions at distances 1, 2, 4, …
   leaves at every position the sum of the entries up to it. Words of 32 bits, sums modulo 2³². -/
module

public import Idealize.ShloMosaic.Lib.Pointwise
public import Idealize.ShloMosaic.Lib.KernelVsHost
public import Mathlib.Algebra.BigOperators.Intervals
public import Mathlib.Data.BitVec

@[expose] public section

namespace Cert.Scan

/-- The sum of the last `L` entries of `u` that end at position `c` (of all of them where there are fewer). -/
def last (u : ℕ → BitVec 32) (L c : ℕ) : BitVec 32 := ∑ j ∈ Finset.range (min L (c + 1)), u (c - j)

/-- The sum of the first `n` entries of `u`. -/
def upto (u : ℕ → BitVec 32) (n : ℕ) : BitVec 32 := ∑ j ∈ Finset.range n, u j

theorem last_one (u : ℕ → BitVec 32) (c : ℕ) : last u 1 c = u c := by
  unfold last; rw [show min 1 (c + 1) = 1 by omega]; simp

/-- One doubling step: the last `2 s` entries are the last `s` and the `s` before them. -/
theorem last_double (u : ℕ → BitVec 32) (s c : ℕ) :
    last u s c + (if s ≤ c then last u s (c - s) else 0) = last u (s + s) c := by
  unfold last
  split
  · next h =>
    rw [show min (s + s) (c + 1) = min s (c + 1) + min s (c - s + 1) by omega, Finset.sum_range_add,
      show min s (c + 1) = s by omega]
    congr 1
    refine Finset.sum_congr rfl fun j hj => ?_
    rw [show c - (s + j) = c - s - j by omega]
  · next h => rw [show min (s + s) (c + 1) = min s (c + 1) by omega, add_zero]

/-- A window at least as long as the prefix is the whole prefix. -/
theorem last_all (u : ℕ → BitVec 32) {L c : ℕ} (h : c < L) : last u L c = upto u (c + 1) := by
  unfold last upto
  rw [show min L (c + 1) = c + 1 by omega]
  have := Finset.sum_range_reflect u (c + 1)
  rw [← this]
  refine Finset.sum_congr rfl fun j hj => ?_
  congr 1

theorem upto_zero (u : ℕ → BitVec 32) : upto u 0 = 0 := rfl
theorem upto_succ (u : ℕ → BitVec 32) (n : ℕ) : upto u (n + 1) = upto u n + u n := Finset.sum_range_succ u n
theorem upto_add (u : ℕ → BitVec 32) (n k : ℕ) : upto u (n + k) = upto u n + upto (fun j => u (n + j)) k :=
  Finset.sum_range_add u n k
theorem upto_congr {u v : ℕ → BitVec 32} {n : ℕ} (h : ∀ j < n, u j = v j) : upto u n = upto v n :=
  Finset.sum_congr rfl fun j hj => h j (Finset.mem_range.mp hj)

end Cert.Scan
-- ==== Proof.ScanSteps.lean ====
/- One doubling step of a running sum as the kernels write it — the vector rotated, the entries that came around the
   end replaced by zero, the rest added on — along the columns of a matrix and along the rows of a single column. -/
module

public import proofs.«01_k».proof.Proof.Scan

@[expose] public section

set_option maxRecDepth 16384

namespace Cert.Scan

open Idealize.ShloMosaic

/-- The comparison "at least" of two small words, as a one-bit word. -/
theorem sge_word {c s : ℕ} (hc : c < 2 ^ 31) (hs : s < 2 ^ 31) :
    IntOp.cmpi .sge (BitVec.ofNat 32 c) (BitVec.ofNat 32 s) = if s ≤ c then 1#1 else 0#1 := by
  simp only [IntOp.cmpi]
  have h1 : (BitVec.ofNat 32 c).toInt = c := by
    rw [BitVec.toInt_eq_toNat_of_lt] <;> rw [BitVec.toNat_ofNat] <;> omega
  have h2 : (BitVec.ofNat 32 s).toInt = s := by
    rw [BitVec.toInt_eq_toNat_of_lt] <;> rw [BitVec.toNat_ofNat] <;> omega
  have : (BitVec.ofNat 32 s).sle (BitVec.ofNat 32 c) = decide (s ≤ c) := by
    rw [BitVec.sle_eq_decide, h1, h2]; simp
  rw [this]
  by_cases h : s ≤ c <;> simp [h]

/-- The kernel's column counter. -/
theorem iota_cols {a n : ℕ} (h : (⟨2, ![a, n]⟩ : Shape).Iotas .tc 32 [1]) (r : Fin a) (c : Fin n) :
    iota .tc ⟨2, ![a, n]⟩ 32 [1] h (ix2 r c) = BitVec.ofNat 32 c := by
  rw [iota_apply]
  show BitVec.ofNat 32 (0 * n + c) = _
  rw [Nat.zero_mul, Nat.zero_add]

/-- The kernel's row counter. -/
theorem iota_rows {a n : ℕ} (h : (⟨2, ![a, n]⟩ : Shape).Iotas .tc 32 [0]) (r : Fin a) (c : Fin n) :
    iota .tc ⟨2, ![a, n]⟩ 32 [0] h (ix2 r c) = BitVec.ofNat 32 r := by
  rw [iota_apply]
  show BitVec.ofNat 32 (0 * a + r) = _
  rw [Nat.zero_mul, Nat.zero_add]

/-- A choice by a comparison, at one index. -/
theorem select_sge_apply {S : Shape} (w : IVec S 32) (k : BitVec 32) (y z : IVec S 32) (j : S.Idx) {c s : ℕ}
    (hw : w j = BitVec.ofNat 32 c) (hk : k = BitVec.ofNat 32 s) (hc : c < 2 ^ 31) (hs : s < 2 ^ 31) :
    select (cmpi .sge w (broadcast S k)) y z j = if s ≤ c then y j else z j := by
  show Scalar.select (IntOp.cmpi .sge (w j) k) (y j) (z j) = _
  rw [hw, hk, sge_word hc hs]
  by_cases h : s ≤ c
  · rw [if_pos h, if_pos h]; rfl
  · rw [if_neg h, if_neg h]; rfl

/-- `x` holds in row `r` and column `c` the sum of the last `L` entries of `u r` that end at `c`. -/
def Cols {a n : ℕ} (x : IVec ⟨2, ![a, n]⟩ 32) (u : Fin a → ℕ → BitVec 32) (L : ℕ) : Prop :=
  ∀ (r : Fin a) (c : Fin n), x (ix2 r c) = last (u r) L c

/-- A doubling step along the columns. -/
theorem Cols.step {a n s : ℕ} {x : IVec ⟨2, ![a, n]⟩ 32} {u : Fin a → ℕ → BitVec 32} (hx : Cols x u s)
    (hι : (⟨2, ![a, n]⟩ : Shape).Iotas .tc 32 [1]) (hr : (⟨2, ![a, n]⟩ : Shape).Rotates 1 none)
    (hs : s < n) (hn : n < 2 ^ 31) :
    Cols (addi x (select (cmpi .sge (iota .tc ⟨2, ![a, n]⟩ 32 [1] hι) (broadcast _ (BitVec.ofNat 32 s)))
      (dynamicRotate 1 (BitVec.ofNat 32 s) none x hr) (broadcast _ 0#32))) u (s + s) := by
  intro r c
  have hc := c.isLt
  rw [← last_double, ← hx r c]
  show x (ix2 r c) + select _ _ _ (ix2 r c) = _
  rw [select_sge_apply _ _ _ _ _ (iota_cols hι r c) rfl (by omega) (by omega)]
  congr 1
  split
  · next h =>
    rw [← hx r ⟨c - s, by omega⟩]
    refine dynamicRotate_apply _ _ _ _ _ _ fun b => ?_
    match b with
    | ⟨0, _⟩ => rfl
    | ⟨1, _⟩ =>
      show (c : ℕ) - s = (c + n - (BitVec.ofNat 32 s).toNat % n) % n
      rw [BitVec.toNat_ofNat, Nat.mod_eq_of_lt (show s < 2 ^ 32 by omega), Nat.mod_eq_of_lt hs,
        show (c : ℕ) + n - s = (c - s) + n by omega, Nat.add_mod_right, Nat.mod_eq_of_lt (by omega)]
  · rfl

/-- `x`, one column of `q` interleaved sequences, holds in row `r` the sum of the last `L` entries of sequence
    `r % q` that end at position `r / q`. -/
def Rows {n : ℕ} (q : ℕ) (x : IVec ⟨2, ![n, 1]⟩ 32) (u : ℕ → ℕ → BitVec 32) (L : ℕ) : Prop :=
  ∀ r : Fin n, x (ix2 r 0) = last (u (r % q)) L (r / q)

/-- A doubling step along the rows: `s` positions of every sequence are `q s` rows. -/
theorem Rows.step {n q s : ℕ} {x : IVec ⟨2, ![n, 1]⟩ 32} {u : ℕ → ℕ → BitVec 32} (hx : Rows q x u s)
    (hι : (⟨2, ![n, 1]⟩ : Shape).Iotas .tc 32 [0]) (hr : (⟨2, ![n, 1]⟩ : Shape).Rotates 0 none)
    (hq : 0 < q) (hs : q * s < n) (hn : n < 2 ^ 31) :
    Rows q (addi x (select (cmpi .sge (iota .tc ⟨2, ![n, 1]⟩ 32 [0] hι) (broadcast _ (BitVec.ofNat 32 (q * s))))
      (dynamicRotate 0 (BitVec.ofNat 32 (q * s)) none x hr) (broadcast _ 0#32))) u (s + s) := by
  intro r
  have hc := r.isLt
  have key : q * s ≤ r ↔ s ≤ (r : ℕ) / q := by rw [Nat.le_div_iff_mul_le hq, Nat.mul_comm]
  rw [← last_double, ← hx r]
  show x (ix2 r 0) + select _ _ _ (ix2 r 0) = _
  rw [select_sge_apply _ _ _ _ _ (iota_rows hι r 0) rfl (by omega) (by omega)]
  congr 1
  by_cases h : q * s ≤ r
  · rw [if_pos h, if_pos (key.mp h)]
    have e1 : ((r : ℕ) - q * s) % q = r % q := by
      conv_rhs => rw [show (r : ℕ) = (r - q * s) + q * s by omega, Nat.add_mul_mod_self_left]
    have e2 : ((r : ℕ) - q * s) / q = r / q - s := by rw [Nat.sub_mul_div]
    rw [← e1, ← e2, ← hx ⟨r - q * s, by omega⟩]
    refine dynamicRotate_apply _ _ _ _ _ _ fun b => ?_
    match b with
    | ⟨0, _⟩ =>
      show (r : ℕ) - q * s = (r + n - (BitVec.ofNat 32 (q * s)).toNat % n) % n
      rw [BitVec.toNat_ofNat, Nat.mod_eq_of_lt (show q * s < 2 ^ 32 by omega), Nat.mod_eq_of_lt hs,
        show (r : ℕ) + n - q * s = (r - q * s) + n by omega, Nat.add_mod_right, Nat.mod_eq_of_lt (by omega)]
    | ⟨1, _⟩ => rfl
  · rw [if_neg h, if_neg (fun h' => h (key.mpr h'))]; rfl

end Cert.Scan
-- ==== Proof.VisScan.lean ====
/- What one visit of the visibility kernel computes: fourteen doubling steps make the running sums of every row of
   the block, and the running total of the blocks before it is added. -/
module

public import proofs.«01_k».proof.Proof.ScanSteps
public import proofs.«01_k».proof.Proof.Gen.KernelIdeal.Skeleton

@[expose] public section

set_option maxRecDepth 16384

noncomputable section

namespace Cert.KernelIdeal.Vis

open Idealize.ShloMosaic Cert.Scan Cert.KernelIdeal Cert.KernelIdeal.Gen

variable {F : FTy → Type} [FloatOps F]

/-- Row `r` of a block as a sequence, zero beyond the block's last column. -/
def rowOf (x : Vec F S4x16384 .i32) (r : Fin 4) (j : ℕ) : BitVec 32 :=
  if h : j < 16384 then x (ix2 r ⟨j, h⟩) else 0

/-- A block is its own sums of one entry. -/
theorem cols_one (x : Vec F S4x16384 .i32) : Cols (a := 4) (n := 16384) x (rowOf x) 1 := by
  intro r c
  rw [last_one]; unfold rowOf; rw [dif_pos c.isLt]

/-- The first five steps: sums of 32 entries. -/
theorem cols_32 (x : Vec F S4x16384 .i32) : Cols (a := 4) (n := 16384) (k2_pay6 x) (rowOf x) 32 :=
  (((((cols_one x).step iota_S4x16384_d1_w32 rotates_S4x16384_d1 (by decide) (by decide)).step
    iota_S4x16384_d1_w32 rotates_S4x16384_d1 (by decide) (by decide)).step
    iota_S4x16384_d1_w32 rotates_S4x16384_d1 (by decide) (by decide)).step
    iota_S4x16384_d1_w32 rotates_S4x16384_d1 (by decide) (by decide)).step
    iota_S4x16384_d1_w32 rotates_S4x16384_d1 (by decide) (by decide)

/-- The column counter of the block. -/
abbrev counter : IVec S4x16384 32 := iota .tc S4x16384 32 [1] iota_S4x16384_d1_w32

/-- Seven more steps: sums of 4096 entries. -/
theorem cols_4096 (x : Vec F S4x16384 .i32) :
    Cols (a := 4) (n := 16384) (k2_pay8 counter (k2_pay6 x) k2_pay7 32#32) (rowOf x) 4096 :=
  (((((((cols_32 x).step iota_S4x16384_d1_w32 rotates_S4x16384_d1 (by decide) (by decide)).step
    iota_S4x16384_d1_w32 rotates_S4x16384_d1 (by decide) (by decide)).step
    iota_S4x16384_d1_w32 rotates_S4x16384_d1 (by decide) (by decide)).step
    iota_S4x16384_d1_w32 rotates_S4x16384_d1 (by decide) (by decide)).step
    iota_S4x16384_d1_w32 rotates_S4x16384_d1 (by decide) (by decide)).step
    iota_S4x16384_d1_w32 rotates_S4x16384_d1 (by decide) (by decide)).step
    iota_S4x16384_d1_w32 rotates_S4x16384_d1 (by decide) (by decide)

/-- The block's running sums above a carried column `C`: what the body computes from the block `x`. -/
def sums (x : Vec F S4x16384 .i32) (C : Vec F S4x1 .i32) : IVec S4x16384 32 :=
  k2_pay1 counter (k2_pay8 counter (k2_pay6 x) k2_pay7 32#32) 4096#32 C

/-- Entry `(r, c)` is the carry of row `r` and the sum of the block's entries up to column `c`. -/
theorem sums_apply (x : Vec F S4x16384 .i32) (C : Vec F S4x1 .i32) (r : Fin 4) (c : Fin 16384) :
    sums x C (ix2 r c) = upto (rowOf x r) (c + 1) + C (ix2 r 0) := by
  have h := ((cols_4096 x).step iota_S4x16384_d1_w32 rotates_S4x16384_d1 (by decide) (by decide)).step
    iota_S4x16384_d1_w32 rotates_S4x16384_d1 (by decide) (by decide) r c
  rw [last_all _ (show (c : ℕ) < 4096 + 4096 + (4096 + 4096) from c.isLt)] at h
  rw [← h]
  refine congrArg₂ (· + ·) rfl ?_
  refine congrArg C ?_
  funext a
  match a with
  | ⟨0, _⟩ => exact Fin.ext rfl
  | ⟨1, _⟩ => exact Fin.ext rfl

end Cert.KernelIdeal.Vis
-- ==== Proof.VisBody.lean ====
/- One visit of the visibility kernel. The scratch carries the running totals of the four rows in its first column: the
   first visit clears it, every visit adds it to the running sums of its block and leaves the new totals, and the last
   visit also stores the totals of the whole rows. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit
public import Idealize.ShloMosaic.Lib.Tactic
public import Idealize.ShloMosaic.Lib.WordCmp
public import Idealize.ShloMosaic.Lib.VecWindow
public import proofs.«01_k».proof.Proof.VisScan

@[expose] public section

set_option maxRecDepth 16384

noncomputable section

namespace Cert.KernelIdeal.Vis

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

/-- The visit is the first, as the body tests it, -/
abbrev isFirst (i : grid2.Coords) : Prop :=
  (Scalar.cmpi .ne (Scalar.extui (Scalar.cmpi .eq (BitVec.ofNat 32 (i 0).val) 0#32)) 0#32) = 1#1
/-- or the last. -/
abbrev isLast (i : grid2.Coords) : Prop := k2_cond2 i = 1#1

/-- The first visit is at point 0, -/
theorem isFirst_iff (t : Fin cfg2.N) : isFirst (grid2.coords t) ↔ t.val = 0 := by
  have ht : t.val < 31 := lt_of_lt_of_eq t.isLt N_2
  have e0 : (grid2.coords t 0).val = t.val / 1 % 31 := Pipeline.Grid.coords_val t 0 (by decide) rfl
  simp only [isFirst, e0]
  word_cmp
/-- the last at point 30. -/
theorem isLast_iff (t : Fin cfg2.N) : isLast (grid2.coords t) ↔ t.val = 30 := by
  have ht : t.val < 31 := lt_of_lt_of_eq t.isLt N_2
  have e0 : (grid2.coords t 0).val = t.val / 1 % 31 := Pipeline.Grid.coords_val t 0 (by decide) rfl
  simp only [isLast, k2_cond2, e0]
  word_cmp

/-- The four carried totals in the scratch. -/
abbrev corner : Rect S8x128 := Rect.unit (s := S8x128) ![0, 0] S4x1.size inb_S8x128_S4x1_0_0
abbrev wholeScratch : Rect S8x128 := Rect.unit (s := S8x128) ![0, 0] S8x128.size inb_S8x128_S8x128_0_0
abbrev wholeBlock : Rect S4x16384 := Rect.unit (s := S4x16384) ![0, 0] S4x16384.size inb_S4x16384_S4x16384_0_0
abbrev wholeNum : Rect S4x1x1 := Rect.unit (s := S4x1x1) ![0, 0, 0] S4x1x1.size inb_S4x1x1_S4x1x1_0_0_0

/-- The totals carried by a scratch. -/
def totals (s : Vec F S8x128 .i32) : Vec F S4x1 .i32 := View.ld s corner

/-- The total of row `r` in a scratch. -/
def carried (s : Vec F S8x128 .i32) (r : Fin 4) : BitVec 32 := s (ix2 ⟨r, Nat.lt_of_lt_of_le r.isLt (by decide)⟩ 0)

theorem totals_apply (s : Vec F S8x128 .i32) (r : Fin 4) : totals s (ix2 r 0) = carried s r :=
  View.ld_unit_apply_of s _ _ _ _ _ fun a => by
    match a with
    | ⟨0, _⟩ => exact (Nat.zero_add _).symm
    | ⟨1, _⟩ => rfl

/-- The visibility map's block: the sums less one. -/
def lessOne (y : IVec S4x16384 32) : IVec S4x16384 32 := subi y (broadcast S4x16384 1#32)

/-- The totals of the whole rows: the last block's sums at the array's last column. -/
def rowTotals (y : IVec S4x16384 32) : IVec S4x1x1 32 :=
  shapeCast S4x1x1 (extractStridedSlice S4x1 ![0, 8479] y slices_S4x16384_o0_8479_S4x1) shapeCasts_S4x1_S4x1x1

/-- After the corner is stored, the carried totals are what was stored. -/
theorem carried_store {κ : Kind} {sp : Space} (v : View sig κ sp S8x128 .i32) (f : v.ty.Contents (Elt F))
    (w : corner.shape.Idx → Elt F .i32) (L : List (View.Piece (Elt F) S8x128 .i32)) (r : Fin 4) :
    carried (v.read (Elt F) (v.writes (Elt F) f (⟨corner, w⟩ :: L))) r = w (ix2 (n0 := 4) (n1 := 1) r 0) :=
  View.read_writes_cons_unit_of_mem v f _ w L _ (ix2 (n0 := 4) (n1 := 1) r 0) rfl fun a => by
    match a with
    | ⟨0, _⟩ => exact (Nat.zero_add _).symm
    | ⟨1, _⟩ => rfl

/-- The totals stored are the last column of the sums. -/
theorem lastColumn_apply (y : IVec S4x16384 32) (r : Fin 4) :
    shapeCast S4x1 (extractStridedSlice S4x1 ![0, 16383] y slices_S4x16384_o0_16383_S4x1) shapeCasts_S4x1_S4x1 (ix2 r 0)
      = y (ix2 r 16383) := by
  rw [shapeCast_id]
  refine congrArg y (funext fun a => ?_)
  match a with
  | ⟨0, _⟩ => exact Fin.ext (Nat.zero_add _)
  | ⟨1, _⟩ => exact Fin.ext rfl

/-- No totals yet. -/
def noTotals : Vec F S4x1 .i32 := fun _ => 0#32

/-- A cleared scratch carries zeros. -/
theorem cleared {κ : Kind} {sp : Space} (v : View sig κ sp S8x128 .i32) :
    v.readCov (Val := Elt F) [⟨wholeScratch, (k2_pay5 : Vec F S8x128 .i32)⟩] corner.toLoadRect = noTotals := by
  funext j
  exact congrFun (View.read_writes_full v v.junk _ _ []) (corner.idx j)

set_option maxHeartbeats 1000000 in
/-- A visit between the first and the last. -/
theorem mid_triple (c : Dev nD) (E : Set ℕ) (i : grid2.Coords)
    (arg1 : Memref sig .tc .vmem S4x16384 .i32) (harg1 : arg1.IsWhole) (arg2 : Memref sig .tc .vmem S4x16384 .i32) (harg2 : arg2.IsWhole)
    (arg3 : Memref sig .tc .vmem S4x1x1 .i32) (harg3 : arg3.IsWhole) (arg4 : Memref sig .tc .vmem S8x128 .i32) (harg4 : arg4.IsWhole)
    (h0 : ¬ isFirst i) (h1 : ¬ isLast i) (x : Vec F S4x16384 .i32) (s : Vec F S8x128 .i32) (K : PUnit → sProp 𝕄) :
    iprop(owns (c : Thread nD τ) arg1 fullShare x ∗ (∃ d, owns (c : Thread nD τ) arg2 fullShare d) ∗ owns (c : Thread nD τ) arg4 fullShare s
        ∗ (iprop(owns (c : Thread nD τ) arg1 fullShare x ∗ owns (c : Thread nD τ) arg2 fullShare (lessOne (sums x (totals s)) : Vec F S4x16384 .i32)
          ∗ (∃ s', ⌜∀ r, carried s' r = sums x (totals s) (ix2 r 16383)⌝ ∗ owns (c : Thread nD τ) arg4 fullShare s')) -∗ K ⟨⟩))
      ⊢ wp frame (wpE (defs₀ (F := F)) Variants.none c none) E (cc2__vis_body i arg1 harg1 arg2 harg2 arg3 harg3 arg4 harg4) K := by
  simp only [cc2__vis_body_eq_skeleton]; unfold cc2__vis_body_skel
  simp only [k2_part1_eq_skeleton, k2_part2_eq_skeleton]
  unfold owns
  iintro ⟨⟨%fx, %hx, Hx⟩, ⟨%d1, %f1, -, H1⟩, ⟨%fs, %hs, Hs⟩, Hk⟩
  subst hx hs
  sl_exec (disch := first | sl_exact h0 | sl_exact h1)
  sl_step
  iapply Hk
  have hl : View.readAt (Elt F) arg1.view wholeBlock.toLoadRect fx = arg1.view.read (Elt F) fx :=
    View.ld_unit_lit (S := S4x16384) _ _ (by decide)
  isplitl [Hx]
  · iexists fx; isplitr; · ipureintro; rfl
    iexact Hx
  isplitl [H1]
  · iexists _; isplitr
    swap; · iexact H1
    ipureintro
    refine (View.read_writes_full arg2.view _ _ _ []).trans ?_
    rw [← hl]; rfl
  iexists _
  isplitr
  swap
  · iexists _; isplitr
    swap; · iexact Hs
    ipureintro; rfl
  ipureintro
  intro r
  refine (carried_store arg4.view _ _ [] r).trans ?_
  refine (lastColumn_apply _ r).trans ?_
  rw [← hl]; rfl

set_option maxHeartbeats 1000000 in
/-- The first visit: it starts from zero totals, whatever the scratch held. -/
theorem first_triple (c : Dev nD) (E : Set ℕ) (i : grid2.Coords)
    (arg1 : Memref sig .tc .vmem S4x16384 .i32) (harg1 : arg1.IsWhole) (arg2 : Memref sig .tc .vmem S4x16384 .i32) (harg2 : arg2.IsWhole)
    (arg3 : Memref sig .tc .vmem S4x1x1 .i32) (harg3 : arg3.IsWhole) (arg4 : Memref sig .tc .vmem S8x128 .i32) (harg4 : arg4.IsWhole)
    (h0 : isFirst i) (h1 : ¬ isLast i) (x : Vec F S4x16384 .i32) (s : Vec F S8x128 .i32) (K : PUnit → sProp 𝕄) :
    iprop(owns (c : Thread nD τ) arg1 fullShare x ∗ (∃ d, owns (c : Thread nD τ) arg2 fullShare d) ∗ owns (c : Thread nD τ) arg4 fullShare s
        ∗ (iprop(owns (c : Thread nD τ) arg1 fullShare x ∗ owns (c : Thread nD τ) arg2 fullShare (lessOne (sums x noTotals) : Vec F S4x16384 .i32)
          ∗ (∃ s', ⌜∀ r, carried s' r = sums x noTotals (ix2 r 16383)⌝ ∗ owns (c : Thread nD τ) arg4 fullShare s')) -∗ K ⟨⟩))
      ⊢ wp frame (wpE (defs₀ (F := F)) Variants.none c none) E (cc2__vis_body i arg1 harg1 arg2 harg2 arg3 harg3 arg4 harg4) K := by
  simp only [cc2__vis_body_eq_skeleton]; unfold cc2__vis_body_skel
  simp only [k2_part1_eq_skeleton, k2_part2_eq_skeleton]
  unfold owns
  iintro ⟨⟨%fx, %hx, Hx⟩, ⟨%d1, %f1, -, H1⟩, ⟨%fs, %hs, Hs⟩, Hk⟩
  subst hx hs
  sl_exec (disch := first | sl_exact h0 | sl_exact h1)
  sl_step
  iapply Hk
  have hl : View.readAt (Elt F) arg1.view wholeBlock.toLoadRect fx = arg1.view.read (Elt F) fx :=
    View.ld_unit_lit (S := S4x16384) _ _ (by decide)
  isplitl [Hx]
  · iexists fx; isplitr; · ipureintro; rfl
    iexact Hx
  isplitl [H1]
  · iexists _; isplitr
    swap; · iexact H1
    ipureintro
    refine (View.read_writes_full arg2.view _ _ _ []).trans ?_
    rw [← hl, ← cleared (F := F) arg4.view]; rfl
  iexists _
  isplitr
  swap
  · iexists _; isplitr
    swap; · iexact Hs
    ipureintro; rfl
  ipureintro
  intro r
  refine (carried_store arg4.view _ _ _ r).trans ?_
  refine (lastColumn_apply _ r).trans ?_
  rw [← hl, ← cleared (F := F) arg4.view]; rfl

set_option maxHeartbeats 1000000 in
/-- The last visit stores the totals of the whole rows too. -/
theorem last_triple (c : Dev nD) (E : Set ℕ) (i : grid2.Coords)
    (arg1 : Memref sig .tc .vmem S4x16384 .i32) (harg1 : arg1.IsWhole) (arg2 : Memref sig .tc .vmem S4x16384 .i32) (harg2 : arg2.IsWhole)
    (arg3 : Memref sig .tc .vmem S4x1x1 .i32) (harg3 : arg3.IsWhole) (arg4 : Memref sig .tc .vmem S8x128 .i32) (harg4 : arg4.IsWhole)
    (h0 : ¬ isFirst i) (h1 : isLast i) (x : Vec F S4x16384 .i32) (s : Vec F S8x128 .i32) (K : PUnit → sProp 𝕄) :
    iprop(owns (c : Thread nD τ) arg1 fullShare x ∗ (∃ d, owns (c : Thread nD τ) arg2 fullShare d) ∗ (∃ d, owns (c : Thread nD τ) arg3 fullShare d)
        ∗ owns (c : Thread nD τ) arg4 fullShare s
        ∗ (iprop(owns (c : Thread nD τ) arg1 fullShare x ∗ owns (c : Thread nD τ) arg2 fullShare (lessOne (sums x (totals s)) : Vec F S4x16384 .i32)
          ∗ owns (c : Thread nD τ) arg3 fullShare (rowTotals (sums x (totals s)) : Vec F S4x1x1 .i32)
          ∗ (∃ s', owns (c : Thread nD τ) arg4 fullShare s')) -∗ K ⟨⟩))
      ⊢ wp frame (wpE (defs₀ (F := F)) Variants.none c none) E (cc2__vis_body i arg1 harg1 arg2 harg2 arg3 harg3 arg4 harg4) K := by
  simp only [cc2__vis_body_eq_skeleton]; unfold cc2__vis_body_skel
  simp only [k2_part1_eq_skeleton, k2_part2_eq_skeleton]
  unfold owns
  iintro ⟨⟨%fx, %hx, Hx⟩, ⟨%d1, %f1, -, H1⟩, ⟨%d2, %f2, -, H2⟩, ⟨%fs, %hs, Hs⟩, Hk⟩
  subst hx hs
  sl_exec (disch := first | sl_exact h0 | sl_exact h1)
  sl_step
  iapply Hk
  have hl : View.readAt (Elt F) arg1.view wholeBlock.toLoadRect fx = arg1.view.read (Elt F) fx :=
    View.ld_unit_lit (S := S4x16384) _ _ (by decide)
  isplitl [Hx]
  · iexists fx; isplitr; · ipureintro; rfl
    iexact Hx
  isplitl [H1]
  · iexists _; isplitr
    swap; · iexact H1
    ipureintro
    refine (View.read_writes_full arg2.view _ _ _ []).trans ?_
    rw [← hl]; rfl
  isplitl [H2]
  · iexists _; isplitr
    swap; · iexact H2
    ipureintro
    refine (View.read_writes_full arg3.view _ _ _ []).trans ?_
    rw [← hl]; rfl
  iexists _, _; isplitr
  swap; · iexact Hs
  ipureintro; rfl

end Cert.KernelIdeal.Vis

end
-- ==== Proof.VisRegion.lean ====
/-
  The visibility call over its 31 visits: between visits the scratch carries, for each row, the sum of the
  entries seen so far.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit
public import Idealize.ShloMosaic.Lib.Tactic
public import Idealize.ShloMosaic.Lib.WordCmp
public import proofs.«01_k».proof.Proof.VisBody

@[expose] public section

set_option maxRecDepth 16384

noncomputable section

namespace Cert.KernelIdeal.Vis

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

open Cert.Scan

section Region

variable (V : (c : Dev nD) → (b : Ref sig .tc) → Buf (Elt F) ((c : Thread nD τ).loc b))

/-- The hits as the call finds them, -/
def hits (c : Dev nD) : Vec F S4x500000 .i32 := V c main_arg1

/-- row `r` of them as a sequence, zero beyond the array's last column, -/
def hit (c : Dev nD) (r : Fin 4) (j : ℕ) : BitVec 32 := if h : j < 500000 then hits V c (ix2 r ⟨j, h⟩) else 0

/-- and the part of the array block `t` covers. -/
def xblk (c : Dev nD) (t : Fin cfg2.N) : (win2_0.xblock (grid2.coords t)).Idx → Elt F .i32 :=
  (win2_0.blk t).view.read (Elt F) (V c (Pipeline.arrRef spec2 0))

/-- Column `k` of block `t` is moved when it lies inside the array. -/
theorem moved_0 (t : Fin cfg2.N) (r : Fin 4) (k : Fin 16384) (h : t.val * 16384 + k.val < 500000) :
    win2_0.moved (grid2.coords t) (ix2 r k) = true := by
  have ht : t.val < 31 := lt_of_lt_of_eq t.isLt N_2
  have e0 : (grid2.coords t 0).val = t.val / 1 % 31 := Pipeline.Grid.coords_val t 0 (by decide) rfl
  have e1 : cc2_transform_0 (grid2.coords t) 1 = t.val := by
    show (BitVec.ofNat 32 (grid2.coords t 0).val).toNat = _
    rw [BitVec.toNat_ofNat, e0]; omega
  rw [Window.moved_iff]
  intro a
  match a with
  | ⟨0, _⟩ => exact r.isLt
  | ⟨1, _⟩ =>
    show k.val < (Pipeline.Clip.of (cc2_transform_0 (grid2.coords t) 1) 16384 500000).extent 16384
    rw [e1]; unfold Pipeline.Clip.of; split
    · exact k.isLt
    · show k.val < 500000 - t.val * 16384; omega

/-- What the staging buffer holds there after the fetch. -/
theorem filled_apply (c : Dev nD) (t : Fin cfg2.N) (d : Vec F S4x16384 .i32) (r : Fin 4) (k : Fin 16384)
    (h : t.val * 16384 + k.val < 500000) :
    (win2_0.fill (grid2.coords t) d (xblk V c t) : Vec F S4x16384 .i32) (ix2 r k) = hit V c r (t.val * 16384 + k.val) := by
  have ht : t.val < 31 := lt_of_lt_of_eq t.isLt N_2
  have e0 : (grid2.coords t 0).val = t.val / 1 % 31 := Pipeline.Grid.coords_val t 0 (by decide) rfl
  have e1 : cc2_transform_0 (grid2.coords t) 1 = t.val := by
    show (BitVec.ofNat 32 (grid2.coords t 0).val).toNat = _
    rw [BitVec.toNat_ofNat, e0]; omega
  unfold Window.fill
  rw [dif_pos (moved_0 t r k h)]
  unfold hit; rw [dif_pos h]
  refine congrArg (hits V c) (funext fun a => Fin.ext ?_)
  match a with
  | ⟨0, _⟩ => show 0 * 4 + 1 * r.val = r.val; omega
  | ⟨1, _⟩ =>
    show cc2_transform_0 (grid2.coords t) 1 * 16384 + 1 * k.val = t.val * 16384 + k.val
    rw [e1]; omega

/-- Sums of the staged block's row are sums of the array's row, as far as the array goes. -/
theorem upto_filled (c : Dev nD) (t : Fin cfg2.N) (d : Vec F S4x16384 .i32) (r : Fin 4) (n : ℕ) (hn : n ≤ 16384)
    (h : t.val * 16384 + n ≤ 500000) :
    upto (rowOf (win2_0.fill (grid2.coords t) d (xblk V c t) : Vec F S4x16384 .i32) r) n = upto (fun j => hit V c r (t.val * 16384 + j)) n :=
  upto_congr fun j hj => by
    unfold rowOf; rw [dif_pos (by omega)]
    exact filled_apply V c t d r ⟨j, by omega⟩ (by show t.val * 16384 + j < _; omega)

/-- The running sums the body computes at visit `t` from the totals of the earlier blocks. -/
theorem sums_filled (c : Dev nD) (t : Fin cfg2.N) (d : Vec F S4x16384 .i32) (C : Vec F S4x1 .i32) (r : Fin 4) (k : Fin 16384)
    (h : t.val * 16384 + k.val < 500000) (hC : C (ix2 r 0) = upto (hit V c r) (t.val * 16384)) :
    sums (win2_0.fill (grid2.coords t) d (xblk V c t) : Vec F S4x16384 .i32) C (ix2 r k) = upto (hit V c r) (t.val * 16384 + (k.val + 1)) := by
  rw [sums_apply, upto_filled V c t d r _ k.isLt (by omega), hC, upto_add, add_comm]

/-- What the scratch carries before visit `n`, -/
def Carries (c : Dev nD) (n : ℕ) (s : Vec F S8x128 .i32) : Prop :=
  0 < n → n < 31 → ∀ r, carried s r = upto (hit V c r) (n * 16384)

/-- and the other buffers of the core the call leaves alone. -/
def others (c : Dev nD) : sProp 𝕄 :=
  bigSep ((((Finset.univ.filter fun b : Ref sig .tc => b.isScoped) \ Finset.univ.image (Pipeline.stageRef spec2))).erase cc2_scratch0)
    fun b => iprop(∃ f : Buf (Elt F) ((c : Thread nD τ).loc b), ((c : Thread nD τ).loc b) ↦{fullShare} f)

/-- Between visits: the scratch at the carried sums, the other buffers and the generator register at anything. -/
def between (c : Dev nD) (n : ℕ) : sProp 𝕄 :=
  iprop((∃ s : Vec F S8x128 .i32, ⌜Carries V c n s⌝ ∗ owns (c : Thread nD τ) (Memref.whole cc2_scratch0) fullShare s)
    ∗ others c ∗ ∃ r, prngReg c r)

/-- The call's data: the hits stay; the map's block `t` ends at the running sums less one, on the columns inside
    the array; the counts end at the sums of whole rows. -/
def dat (c : Dev nD) : Dat τ (Elt F) Unit ℕ (UR sig nD τ) ℕ cfg2 c where
  A w := V c (Pipeline.arrRef spec2 w)
  after w t := match w with
    | ⟨0, _⟩ => (win2_0.fill (grid2.coords t) (fun _ => (0#32 : BitVec 32)) (xblk V c t) : Vec F S4x16384 .i32)
    | ⟨1, _⟩ => ((fun j => upto (hit V c (j 0)) (t.val * 16384 + ((j 1).val + 1)) - 1#32 : IVec S4x16384 32) : Vec F S4x16384 .i32)
    | ⟨2, _⟩ => ((fun j => upto (hit V c (j 0)) 500000 : IVec S4x1x1 32) : Vec F S4x1x1 .i32)
  Φ n := between V c n.val
  q _ := fullShare
  owed _ := 0

theorem A_eq (c : Dev nD) (w : Fin cfg2.W) : (dat V c).A w = V c (Pipeline.arrRef spec2 w) := by dsimp only [dat]
theorem Φ_eq (c : Dev nD) (n : Fin (cfg2.N + 1)) : (dat V c).Φ n = between V c n.val := by dsimp only [dat]
theorem after_0 (c : Dev nD) (t : Fin cfg2.N) :
    (dat V c).after 0 t = (win2_0.fill (grid2.coords t) (fun _ => (0#32 : BitVec 32)) (xblk V c t) : Vec F S4x16384 .i32) := by
  dsimp only [dat]
theorem after_1 (c : Dev nD) (t : Fin cfg2.N) :
    (dat V c).after 1 t = ((fun j => upto (hit V c (j 0)) (t.val * 16384 + ((j 1).val + 1)) - 1#32 : IVec S4x16384 32) : Vec F S4x16384 .i32) := by
  dsimp only [dat]
theorem after_2 (c : Dev nD) (t : Fin cfg2.N) :
    (dat V c).after 2 t = ((fun j => upto (hit V c (j 0)) 500000 : IVec S4x1x1 32) : Vec F S4x1x1 .i32) := by dsimp only [dat]

/-- The body finds block `t` in the hits' buffer, with anything beyond the array's end. -/
theorem before_0 (c : Dev nD) (t : Fin cfg2.N) (d) :
    (dat V c).before 0 t d = (win2_0.fill (grid2.coords t) d (xblk V c t) : Vec F S4x16384 .i32) := by
  unfold Dat.before; rw [if_pos (fetch2_0 t)]; unfold Dat.fetched Dat.blockOf xblk; rw [A_eq]

/-- The map's buffer as the visit leaves it agrees with `after` on what is written back. -/
theorem map_left (c : Dev nD) (t : Fin cfg2.N) (d : Vec F S4x16384 .i32) (C : Vec F S4x1 .i32)
    (hC : ∀ r, C (ix2 r 0) = upto (hit V c r) (t.val * 16384)) :
    win2_1.fill (grid2.coords t) (lessOne (sums (win2_0.fill (grid2.coords t) d (xblk V c t) : Vec F S4x16384 .i32) C) : Vec F S4x16384 .i32)
      (win2_1.cut (grid2.coords t) ((dat V c).after 1 t))
    = (lessOne (sums (win2_0.fill (grid2.coords t) d (xblk V c t) : Vec F S4x16384 .i32) C) : Vec F S4x16384 .i32) := by
  refine Window.fill_congr_cut _ _ (funext fun j => ?_)
  have ht : t.val < 31 := lt_of_lt_of_eq t.isLt N_2
  have e0 : (grid2.coords t 0).val = t.val / 1 % 31 := Pipeline.Grid.coords_val t 0 (by decide) rfl
  have e1 : cc2_transform_1 (grid2.coords t) 1 = t.val := by
    show (BitVec.ofNat 32 (grid2.coords t 0).val).toNat = _
    rw [BitVec.toNat_ofNat, e0]; omega
  have hk : t.val * 16384 + (j 1).val < 500000 := by
    have h := (j 1).isLt
    have h' : (j 1).val < (Pipeline.Clip.of (cc2_transform_1 (grid2.coords t) 1) 16384 500000).extent 16384 := h
    rw [e1] at h'; unfold Pipeline.Clip.of at h'; split at h'
    · have : (j 1).val < 16384 := h'
      omega
    · have : (j 1).val < 500000 - t.val * 16384 := h'
      omega
  have hj : win2_1.xinj (grid2.coords t) j = (ix2 (⟨(j 0).val, Nat.lt_of_lt_of_le (j 0).isLt (win2_1.xsize_le (grid2.coords t) 0)⟩ : Fin 4)
      (⟨(j 1).val, Nat.lt_of_lt_of_le (j 1).isLt (win2_1.xsize_le (grid2.coords t) 1)⟩ : Fin 16384) : S4x16384.Idx) :=
    funext fun a => match a with | ⟨0, _⟩ => rfl | ⟨1, _⟩ => rfl
  show (lessOne (sums _ C) : Vec F S4x16384 .i32) (win2_1.xinj (grid2.coords t) j) = (dat V c).after 1 t (win2_1.xinj (grid2.coords t) j)
  rw [after_1, hj]
  exact congrArg (· - 1#32) (sums_filled V c t d C _ _ hk (hC _))

/-- The body's row of the table at a point's slots. -/
theorem row (t : Fin cfg2.N) : defs₀ (F := F) .tc cfg2.body (cfg2.bodyArgs t (cfg2.slots t)) = bodyAt2 t := by
  unfold defs₀; rw [Defs.onTc_tc]

theorem idle_iff (t : Fin cfg2.N) : idle2 2 (grid2.coords t) = true ↔ ¬ t.val = 30 := by
  rw [← isLast_iff]; simp only [Bool.not_eq_true', beq_eq_false_iff_ne, isLast, ne_eq]

theorem flush_iff (t : Fin cfg2.N) : (cfg2.win 2).flush t = true ↔ t.val = 30 := by
  have ht : t.val < 31 := lt_of_lt_of_eq t.isLt N_2
  rw [flush2_2]; omega

/-- The counts' buffer between the last point: handed on as found; at the last, at the sums of whole rows. -/
theorem leaves_count (c : Dev nD) (t : Fin cfg2.N) : (dat V c).leaves 2 t
    = if t.val = 30 then owns (c : Thread nD τ) (st2_2 t) fullShare ((dat V c).after 2 t)
      else iprop(∃ d, owns (c : Thread nD τ) (st2_2 t) fullShare ((dat V c).before 2 t d)) := by
  split
  · next h =>
    have hi : idle2 2 (grid2.coords t) = false := by
      rw [← Bool.not_eq_true, idle_iff]; exact fun h' => h' h
    unfold Dat.leaves
    rw [show cfg2.idle 2 (cfg2.grid.coords t) = false from hi]
  · next h =>
    exact (dat V c).leaves_idle 2 t ((idle_iff t).2 h) (by rw [← Bool.not_eq_true, flush_iff]; exact h)

/-- A visit's carried totals are the sums of the rows up to the next block. -/
theorem carries_succ (c : Dev nD) (t : Fin cfg2.N) (d : Vec F S4x16384 .i32) (C : Vec F S4x1 .i32) (s : Vec F S8x128 .i32)
    (hC : ∀ r, C (ix2 r 0) = upto (hit V c r) (t.val * 16384))
    (hs : ∀ r, carried s r = sums (win2_0.fill (grid2.coords t) d (xblk V c t) : Vec F S4x16384 .i32) C (ix2 r 16383)) :
    Carries V c (t.val + 1) s := fun _ h r => by
  refine (hs r).trans ((sums_filled V c t d C r 16383 (by show t.val * 16384 + 16383 < _; omega) (hC r)).trans (congrArg _ ?_))
  show t.val * 16384 + (16383 + 1) = _; omega

/-- Row `r`'s stored total is the last block's sum at the array's last column. -/
theorem rowTotals_apply (y : IVec S4x16384 32) (j : S4x1x1.Idx) (r : Fin 4) (hr : (j 0).val = r.val) (k : Fin 16384) (hk : k.val = 8479) :
    rowTotals y j = y (ix2 r k) := by
  unfold rowTotals
  rw [shapeCast_apply _ _ j (ix2 (n0 := 4) (n1 := 1) r 0) (by
    rw [Shape.rowMajor_val_two, Shape.rowMajor_val_three]
    have h1 : (j 1).val < 1 := (j 1).isLt
    have h2 : (j 2).val < 1 := (j 2).isLt
    show r.val * 1 + 0 = ((j 0).val * 1 + (j 1).val) * 1 + (j 2).val
    omega)]
  refine congrArg y (funext fun a => ?_)
  match a with
  | ⟨0, _⟩ => exact Fin.ext (Nat.zero_add _)
  | ⟨1, _⟩ => exact Fin.ext hk.symm

/-- The totals the last visit stores. -/
theorem count_left (c : Dev nD) (t : Fin cfg2.N) (ht : t.val = 30) (d : Vec F S4x16384 .i32) (C : Vec F S4x1 .i32)
    (hC : ∀ r, C (ix2 r 0) = upto (hit V c r) (t.val * 16384)) :
    (rowTotals (sums (win2_0.fill (grid2.coords t) d (xblk V c t) : Vec F S4x16384 .i32) C) : Vec F S4x1x1 .i32) = (dat V c).after 2 t := by
  obtain ⟨k, hk⟩ : ∃ k : Fin 16384, k.val = 8479 := ⟨⟨8479, by decide⟩, rfl⟩
  rw [after_2]
  funext j
  refine (rowTotals_apply _ j (j 0) rfl k hk).trans ((sums_filled V c t d C (j 0) k (by omega) (hC _)).trans ?_)
  rw [show t.val * 16384 + (k.val + 1) = 500000 by omega]

/-- What a visit after the first starts from. -/
theorem totals_eq (c : Dev nD) (t : Fin cfg2.N) (ht : t.val ≠ 0) (s : Vec F S8x128 .i32) (hs : Carries V c t.val s) (r : Fin 4) :
    totals s (ix2 r 0) = upto (hit V c r) (t.val * 16384) := by
  have ht' : t.val < 31 := lt_of_lt_of_eq t.isLt N_2
  rw [totals_apply]; exact hs (Nat.pos_of_ne_zero ht) ht' r

/-- The call's obligation. -/
theorem obligation (c : Dev nD) : BodyObligationLoose (dat (F := F) V c) (defs₀ (F := F)) Variants.none () Set.univ := fun t => by
  have ht' : t.val < 31 := lt_of_lt_of_eq t.isLt N_2
  rw [row]
  change _ ⊢ wp frame (wpE (defs₀ (F := F)) Variants.none c none) Set.univ (bodyAt2 t) fun _ =>
    iprop((dat V c).Φ t.succ ∗ (dat V c).owesAt () t.succ ∗ bigSep Finset.univ fun w : Fin cfg2.W => (dat V c).leaves w t)
  rw [bigSep_W2, bigSep_W2, leaves_count]
  have hx : win2_0.cut (grid2.coords t) ((dat V c).after 0 t) = xblk V c t := by rw [after_0]; exact win2_0.cut_fill _ _ _
  rw [show (dat V c).owesAt () t.succ = (dat V c).owesAt () t.castSucc from rfl, Φ_eq, Φ_eq]
  change iprop(between V c t.val ∗ _ ∗ (∃ d, owns (c : Thread nD τ) (st2_0 t) fullShare ((dat V c).before 0 t d))
      ∗ (∃ d, owns (c : Thread nD τ) (st2_1 t) fullShare ((dat V c).before 1 t d))
      ∗ (∃ d, owns (c : Thread nD τ) (st2_2 t) fullShare ((dat V c).before 2 t d)))
    ⊢ wp _ _ _ _ fun _ => iprop(between V c (t.val + 1) ∗ _
      ∗ (∃ d, owns (c : Thread nD τ) (st2_0 t) fullShare (win2_0.fill (grid2.coords t) d (win2_0.cut (grid2.coords t) ((dat V c).after 0 t))))
      ∗ (∃ d, owns (c : Thread nD τ) (st2_1 t) fullShare (win2_1.fill (grid2.coords t) d (win2_1.cut (grid2.coords t) ((dat V c).after 1 t))))
      ∗ _)
  rw [hx]
  simp only [before_0]
  unfold between bodyAt2
  iintro ⟨⟨⟨%s, %hs, Hs⟩, Hr, Hp⟩, Ho, ⟨%d0, H0⟩, ⟨%d1, H1⟩, H2⟩
  by_cases h0 : t.val = 0
  · have hC : ∀ r, (noTotals : Vec F S4x1 .i32) (ix2 r 0) = upto (hit V c r) (t.val * 16384) := fun r => by
      rw [h0, Nat.zero_mul, upto_zero]; rfl
    rw [if_neg (by omega)]
    iapply (first_triple c Set.univ (grid2.coords t) _ _ _ _ _ _ _ _ ((isFirst_iff t).2 h0) (fun h => by have := (isLast_iff t).1 h; omega)
      (win2_0.fill (grid2.coords t) d0 (xblk V c t) : Vec F S4x16384 .i32) s _)
    isplitl [H0]; · iexact H0
    isplitl [H1]; · iexists _; iexact H1
    isplitl [Hs]; · iexact Hs
    iintro ⟨H0, H1, ⟨%s', %hs', Hs⟩⟩
    isplitl [Hs Hr Hp]
    · isplitl [Hs]
      · iexists s'; isplitr; · ipureintro; exact carries_succ V c t d0 _ s' hC hs'
        iexact Hs
      isplitl [Hr]; · iexact Hr
      iexact Hp
    isplitl [Ho]; · iexact Ho
    isplitl [H0]; · iexists d0; iexact H0
    isplitl [H1]
    · iexists _; rw [map_left V c t d0 _ hC]; iexact H1
    iexact H2
  have hC := totals_eq V c t h0 s hs
  by_cases h1 : t.val = 30
  · rw [if_pos h1]
    iapply (last_triple c Set.univ (grid2.coords t) _ _ _ _ _ _ _ _ (fun h => h0 ((isFirst_iff t).1 h)) ((isLast_iff t).2 h1)
      (win2_0.fill (grid2.coords t) d0 (xblk V c t) : Vec F S4x16384 .i32) s _)
    isplitl [H0]; · iexact H0
    isplitl [H1]; · iexists _; iexact H1
    isplitl [H2]; · icases H2 with ⟨%d2, H2⟩; iexists _; iexact H2
    isplitl [Hs]; · iexact Hs
    iintro ⟨H0, H1, H2, ⟨%s', Hs⟩⟩
    isplitl [Hs Hr Hp]
    · isplitl [Hs]
      · iexists s'; isplitr; · ipureintro; exact fun _ h => absurd h (by omega)
        iexact Hs
      isplitl [Hr]; · iexact Hr
      iexact Hp
    isplitl [Ho]; · iexact Ho
    isplitl [H0]; · iexists d0; iexact H0
    isplitl [H1]
    · iexists _; rw [map_left V c t d0 _ hC]; iexact H1
    rw [← count_left V c t h1 d0 _ hC]; iexact H2
  · rw [if_neg h1]
    iapply (mid_triple c Set.univ (grid2.coords t) _ _ _ _ _ _ _ _ (fun h => h0 ((isFirst_iff t).1 h)) (fun h => h1 ((isLast_iff t).1 h))
      (win2_0.fill (grid2.coords t) d0 (xblk V c t) : Vec F S4x16384 .i32) s _)
    isplitl [H0]; · iexact H0
    isplitl [H1]; · iexists _; iexact H1
    isplitl [Hs]; · iexact Hs
    iintro ⟨H0, H1, ⟨%s', %hs', Hs⟩⟩
    isplitl [Hs Hr Hp]
    · isplitl [Hs]
      · iexists s'; isplitr; · ipureintro; exact carries_succ V c t d0 _ s' hC hs'
        iexact Hs
      isplitl [Hr]; · iexact Hr
      iexact Hp
    isplitl [Ho]; · iexact Ho
    isplitl [H0]; · iexists d0; iexact H0
    isplitl [H1]
    · iexists _; rw [map_left V c t d0 _ hC]; iexact H1
    iexact H2

theorem others_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f) ∗ others c) := by
  unfold Pipeline.scopedRest others
  exact bigSep_erase (by decide)

/-- Before the first visit the scratch may hold anything, -/
theorem enter (c : Dev nD) :
    iprop((∃ r, prngReg c r) ∗ Pipeline.scopedRest (Ix := Unit) (Name := ℕ) (U := UR sig nD τ) (Lvl := ℕ) (Val := Elt F) spec2 c)
      ⊢ (dat (F := F) V c).Φ 0 := by
  rw [Φ_eq, others_split]; unfold between; simp only [owns_whole]
  iintro ⟨Hp, ⟨%f, Hs⟩, Hr⟩
  isplitl [Hs]
  · iexists f; isplitr
    · ipureintro; exact fun h => absurd h (Nat.lt_irrefl 0)
    iexact Hs
  isplitl [Hr]; · iexact Hr
  iexact Hp

/-- and after the last. -/
theorem leave (c : Dev nD) : (dat (F := F) V c).Φ (Fin.last _)
      ⊢ iprop((∃ r, prngReg c r) ∗ Pipeline.scopedRest (Ix := Unit) (Name := ℕ) (U := UR sig nD τ) (Lvl := ℕ) (Val := Elt F) spec2 c) := by
  rw [Φ_eq, others_split]; unfold between; simp only [owns_whole]
  iintro ⟨⟨%s, -, Hs⟩, Hr, Hp⟩
  isplitl [Hp]; · iexact Hp
  isplitl [Hs]
  · iexists s; iexact Hs
  iexact Hr

end Region

end Cert.KernelIdeal.Vis

end
-- ==== Proof.Run.lean ====
/-
  The whole kernel runs: its host stretches and its three calls in order. After the run every buffer is what
  the fold `W7` below says; in particular the arguments are as launched.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit
public import Idealize.ShloMosaic.Lib.Tactic
public import Idealize.ShloMosaic.Lib.WordCmp
public import proofs.«01_k».proof.Proof.Ew
public import proofs.«01_k».proof.Proof.Tile
public import proofs.«01_k».proof.Proof.VisRegion
public import proofs.«01_k».proof.Proof.Gen.KernelIdeal.Regions
public import Idealize.ShloMosaic.Lib.Pipeline.RegionsLoop
public import Idealize.ShloMosaic.Lib.Pipeline.RegionArraysS

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold between the items of the program -/

/-- At launch, -/
abbrev W0 (c : Dev nD) : Valuation τ sig (Elt F) := fun b => m (c, b)
/-- after the transposes of the four images, -/
abbrev W1 (c : Dev nD) : Valuation τ sig (Elt F) := StableHlo.after hostOps0 (W0 m c)
/-- the contents the reweighting call finds, -/
abbrev V1 : (c : Dev nD) → (b : Ref sig .tc) → Buf (Elt F) ((c : Thread nD τ).loc b) := fun c b => W1 m c b
/-- after the reweighting call, -/
def W2 (c : Dev nD) : Valuation τ sig (Elt F) := Pipeline.afterRegion (Ew.dat (V1 m) c) (W1 m c)
/-- after its result is transposed back and the counts are brought into tiles' order, -/
abbrev W3 (c : Dev nD) : Valuation τ sig (Elt F) := StableHlo.after hostOps1 (W2 m c)
/-- the contents the tile call finds, -/
abbrev V3 : (c : Dev nD) → (b : Ref sig .tc) → Buf (Elt F) ((c : Thread nD τ).loc b) := fun c b => W3 m c b
/-- after the tile call, -/
def W4 (c : Dev nD) : Valuation τ sig (Elt F) := Pipeline.afterRegion (Tile.dat (V3 m) c) (W3 m c)
/-- after its results are laid out, -/
abbrev W5 (c : Dev nD) : Valuation τ sig (Elt F) := StableHlo.after hostOps2 (W4 m c)
/-- the contents the visibility call finds, -/
abbrev V5 : (c : Dev nD) → (b : Ref sig .tc) → Buf (Elt F) ((c : Thread nD τ).loc b) := fun c b => W5 m c b
/-- after the visibility call, -/
def W6 (c : Dev nD) : Valuation τ sig (Elt F) := Pipeline.afterRegion (Vis.dat (V5 m) c) (W5 m c)
/-- and at the return. -/
abbrev W7 (c : Dev nD) : Valuation τ sig (Elt F) := StableHlo.after hostOps3 (W6 m c)

/-! ## The calls' data -/

/-- No call has a table. -/
abbrev adm : (p : Fin 3) → (pcfgs (F := F) p).Adm := fun p => (cfgs p).toPCfg_adm

/-- Each call's data at the contents it finds. -/
def pdats : (p : Fin 3) → (c : Dev nD) → Dat τ (Elt F) Unit ℕ (UR sig nD τ) ℕ (Pipeline.pin (pcfgs (F := F)) adm p) c
  | ⟨0, _⟩ => fun c => Ew.dat (V1 m) c
  | ⟨1, _⟩ => fun c => Tile.dat (V3 m) c
  | ⟨2, _⟩ => fun c => Vis.dat (V5 m) c

abbrev 𝒱₀ : Variants := Variants.none
/-- No core owes another anything. -/
abbrev L : GSem nD τ sig → Finset Unit := fun _ => ∅
abbrev lv : GSem nD τ sig → Unit → ℕ := fun _ _ => 0
/-- Beside the buffers: the generator register and an empty debt. -/
abbrev R (c : Dev nD) : sProp 𝕄 := iprop((∃ r, prngReg c r) ∗ ∃ W, owes (c : Thread nD τ) (0 : CellTallies nD τ sig Unit) W)

/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- A call as a segment: entered from every buffer at `Wa`, left at the call's arrays' final contents and every
    other buffer as it was. The call's invariant takes in the core's other buffers and the register, and gives
    them back. -/
def region (p : Fin 3) (kit : Pipeline.LaunchFacts (nD := nD) (τ := τ) cfgs p) (Wa : Dev nD → Valuation τ sig (Elt F))
    (hb : ∀ c, BodyObligationLoose (pdats m p c) (defs₀ (F := F)) 𝒱₀ () Set.univ)
    (hshare : ∀ c w, (pdats m p c).share w = fullShare) (howed : ∀ c t, (pdats m p c).owed t = 0)
    (hrec : ∀ c, (pdats m p c).recorded 0 = Set.univ)
    (hA : ∀ c w, (pdats m p c).A w = Wa c (Proc.devRef .tc (Pipeline.arrRef (Pipeline.pin (pcfgs (F := F)) adm p).spec w)))
    (hin : ∀ c, iprop((∃ r, prngReg c r) ∗ Pipeline.scopedRest (Pipeline.pin (pcfgs (F := F)) adm p).spec c) ⊢ (pdats m p c).Φ 0)
    (hout : ∀ c, (pdats m p c).Φ (Fin.last _) ⊢ iprop((∃ r, prngReg c r) ∗ Pipeline.scopedRest (Pipeline.pin (pcfgs (F := F)) adm p).spec c)) :
    Pipeline.RegionSeg (pcfgs (F := F)) adm (pdats m) () defs₀ 𝒱₀ L lv p where
  win := kit.win.to₀
  block_pos := kit.block_pos
  stage_whole := kit.stage_whole
  K := PEmpty
  osem k := k.elim
  ho := Pipeline.OwnSemFacts.none _
  hbody := hb
  hwaits := Pipeline.hwaits_of_owed_zero _ _ _ _ L lv p howed
  pre c := iprop(StableHlo.held (c : Thread nD τ) (Pipeline.ucRefs τ sig) (Wa c) ∗ R c)
  post c := iprop(StableHlo.held (c : Thread nD τ) (Pipeline.ucRefs τ sig) (Pipeline.afterRegion (pdats m p c) (Wa c)) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c
    (fun b => Wa c b)
  hentry c := by
    rw [Pipeline.ownSems0_none]
    have hsplit := Pipeline.arrays_of_unscopedBufs (p := p) (pcfgs (F := F)) adm (pdats m) kit.win kit.arr_whole c
      (hshare c) (fun b => Wa c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr
      · ipureintro; exact fun _ _ => Or.inl (by rw [hrec c]; trivial)
      iexact HO
    isplitl [Hp]; · iexact Hp
    iexact Hrest
  hin c := by
    refine BIBase.Entails.trans ?_ (hin c)
    iintro ⟨Hp, -, Hr⟩
    isplitl [Hp]; · iexact Hp
    iexact Hr
  hout c := by
    rw [Pipeline.ownSems0_none]
    refine (hout c).trans ?_
    iintro ⟨Hp, Hr⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      kit.win kit.arr_whole c (pdats m) (hshare c)
      (fun b => Wa c b) (fun b => Pipeline.afterRegion (pdats m p c) (Wa c) b) ((pdats m p c).arrAt · (Pipeline.pin (pcfgs (F := F)) adm p).N)
      (fun w => (Pipeline.afterRegion_arr (pdats m p c) (Wa c) kit.win.arr_inj w).symm)
      (fun b hb => Pipeline.afterRegion_of_not_arr (pdats m p c) (Wa c) fun w e => hb (Finset.mem_image.mpr ⟨w, Finset.mem_univ _, e.symm⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

/-- The reweighting call, -/
def reg0 : Pipeline.RegionSeg (pcfgs (F := F)) adm (pdats m) () defs₀ 𝒱₀ L lv 0 :=
  region m 0 launch0 (W1 m) (fun c => (Ew.obligation (V1 m) c).loose) (fun c => (Ew.dat (V1 m) c).share_full fun _ => rfl)
    (fun _ _ => rfl) (fun _ => rfl) (fun c w => Ew.A_eq (V1 m) c w)
    (fun c => by
      rw [show (pdats m 0 c).Φ 0 = Pipeline.ΦA spec0 c from rfl]; unfold Pipeline.ΦA
      iintro ⟨Hp, Hr⟩
      isplitl [Hr]; · iexact Hr
      iexact Hp)
    (fun c => by
      rw [show (pdats m 0 c).Φ (Fin.last _) = Pipeline.ΦA spec0 c from rfl]; unfold Pipeline.ΦA
      iintro ⟨Hr, Hp⟩
      isplitl [Hp]; · iexact Hp
      iexact Hr)

/-- the tile call -/
def reg1 : Pipeline.RegionSeg (pcfgs (F := F)) adm (pdats m) () defs₀ 𝒱₀ L lv 1 :=
  region m 1 launch1 (W3 m) (fun c => (Tile.obligation (V3 m) c).loose) (fun c => (Tile.dat (V3 m) c).share_full fun _ => rfl)
    (fun _ _ => rfl) (fun _ => rfl) (fun c w => Tile.A_eq (V3 m) c w)
    (fun c => by
      rw [show (pdats m 1 c).Φ 0 = Pipeline.ΦA spec1 c from rfl]; unfold Pipeline.ΦA
      iintro ⟨Hp, Hr⟩
      isplitl [Hr]; · iexact Hr
      iexact Hp)
    (fun c => by
      rw [show (pdats m 1 c).Φ (Fin.last _) = Pipeline.ΦA spec1 c from rfl]; unfold Pipeline.ΦA
      iintro ⟨Hr, Hp⟩
      isplitl [Hp]; · iexact Hp
      iexact Hr)

/-- and the visibility call. -/
def reg2 : Pipeline.RegionSeg (pcfgs (F := F)) adm (pdats m) () defs₀ 𝒱₀ L lv 2 :=
  region m 2 launch2 (W5 m) (fun c => Vis.obligation (V5 m) c) (fun c => (Vis.dat (V5 m) c).share_full fun _ => rfl)
    (fun _ _ => rfl) (fun _ => rfl) (fun c w => Vis.A_eq (V5 m) c w)
    (fun c => Vis.enter (V5 m) c) (fun c => Vis.leave (V5 m) c)

/-- The program's items in order. -/
abbrev segs : List (Pipeline.Seg (pcfgs (F := F)) adm (pdats m) () defs₀ 𝒱₀ L lv) :=
  [ .host (hseg hostOps0 hostOps0_sub hostOps0_fresh (W0 m)), .region (reg0 m),
    .host (hseg hostOps1 hostOps1_sub hostOps1_fresh (W2 m)), .region (reg1 m),
    .host (hseg hostOps2 hostOps2_sub hostOps2_fresh (W4 m)), .region (reg2 m),
    .host (hseg hostOps3 hostOps3_sub hostOps3_fresh (W6 m)) ]

/-- The program is those items. -/
theorem main_run (c : Dev nD) : main (F := F) c = Pipeline.Seg.run (segs m) := (main_chain c).trans (by chain_rfl)

/-- No semaphore outlives the program. -/
theorem no_unscoped : ∀ sm : SemLoc sig, sm.isScoped .tc = true := by decide

/-- At the end each core holds every buffer at `W7`. -/
abbrev Tₙ (c : Dev nD) : sProp 𝕄 := iprop(StableHlo.held (c : Thread nD τ) (Pipeline.ucRefs τ sig) (W7 m c) ∗ ∃ r, prngReg c r)

set_option backward.isDefEq.respectTransparency.types false in
/-- Every fair execution of the program ends, with every buffer at `W7` and every counter at zero. -/
theorem run : θ_run defs (onTc (τ := τ) (main (F := F))) ⟨m, fun _ => 0, ρ⟩ (fun r =>
      (∀ (c : Dev nD), ∀ b ∈ Pipeline.ucRefs τ sig, r.2.mem (((c : Thread nD τ)).1, b) = W7 m c b) ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h hz => ⟨h, funext fun g => hz g (.inr (no_unscoped g.2))⟩)

/-! ## The arguments end as launched -/

abbrev argRefs : List (Ref sig .tc) := [main_arg0, main_arg1, main_arg2, main_arg3, main_arg4, main_arg5]

theorem args_kept0 : ∀ a ∈ argRefs, a ∉ hostOps0_W := ListAll.forall_mem_of_all_decide (by decide +kernel)
theorem args_kept1 : ∀ a ∈ argRefs, a ∉ hostOps1_W := ListAll.forall_mem_of_all_decide (by decide +kernel)
theorem args_kept2 : ∀ a ∈ argRefs, a ∉ hostOps2_W := ListAll.forall_mem_of_all_decide (by decide +kernel)
theorem args_kept3 : ∀ a ∈ argRefs, a ∉ hostOps3_W := ListAll.forall_mem_of_all_decide (by decide +kernel)
theorem args_in0 : ∀ a ∈ argRefs, ∀ w : Fin cfg0.W, Pipeline.arrRef spec0 w = a → (cfg0.win w).isOut = false :=
  ListAll.forall_mem_of_all_decide (by decide +kernel)
theorem args_in1 : ∀ a ∈ argRefs, ∀ w : Fin cfg1.W, Pipeline.arrRef spec1 w = a → (cfg1.win w).isOut = false :=
  ListAll.forall_mem_of_all_decide (by decide +kernel)
theorem args_in2 : ∀ a ∈ argRefs, ∀ w : Fin cfg2.W, Pipeline.arrRef spec2 w = a → (cfg2.win w).isOut = false :=
  ListAll.forall_mem_of_all_decide (by decide +kernel)

theorem W1_args (c : Dev nD) (a : Ref sig .tc) (ha : a ∈ argRefs) : W1 m c a = m ((c : Thread nD τ).loc a) :=
  StableHlo.after_of_writes_sub hostOps0 _ hostOps0_writes (args_kept0 a ha)
theorem W2_args (c : Dev nD) (a : Ref sig .tc) (ha : a ∈ argRefs) : W2 m c a = m ((c : Thread nD τ).loc a) := by
  unfold W2
  exact (Pipeline.afterRegion_keeps _ _ launch0.win.arr_inj (fun w => Ew.A_eq (V1 m) c w) a (args_in0 a ha)).trans (W1_args m c a ha)
theorem W3_args (c : Dev nD) (a : Ref sig .tc) (ha : a ∈ argRefs) : W3 m c a = m ((c : Thread nD τ).loc a) :=
  (StableHlo.after_of_writes_sub hostOps1 _ hostOps1_writes (args_kept1 a ha)).trans (W2_args m c a ha)
theorem W4_args (c : Dev nD) (a : Ref sig .tc) (ha : a ∈ argRefs) : W4 m c a = m ((c : Thread nD τ).loc a) := by
  unfold W4
  exact (Pipeline.afterRegion_keeps _ _ launch1.win.arr_inj (fun w => Tile.A_eq (V3 m) c w) a (args_in1 a ha)).trans (W3_args m c a ha)
theorem W5_args (c : Dev nD) (a : Ref sig .tc) (ha : a ∈ argRefs) : W5 m c a = m ((c : Thread nD τ).loc a) :=
  (StableHlo.after_of_writes_sub hostOps2 _ hostOps2_writes (args_kept2 a ha)).trans (W4_args m c a ha)
theorem W6_args (c : Dev nD) (a : Ref sig .tc) (ha : a ∈ argRefs) : W6 m c a = m ((c : Thread nD τ).loc a) := by
  unfold W6
  exact (Pipeline.afterRegion_keeps _ _ launch2.win.arr_inj (fun w => Vis.A_eq (V5 m) c w) a (args_in2 a ha)).trans (W5_args m c a ha)
theorem W7_args (c : Dev nD) (a : Ref sig .tc) (ha : a ∈ argRefs) : W7 m c a = m ((c : Thread nD τ).loc a) :=
  (StableHlo.after_of_writes_sub hostOps3 _ hostOps3_writes (args_kept3 a ha)).trans (W6_args m c a ha)

/-- Every fair execution of the program ends with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => by
    have hb : ∀ (c : Dev nD) (b : Ref sig .tc), b ∈ argRefs → ¬ (Proc.devRef .tc b : DevRef τ sig).isScoped →
        r.2.mem ((c.tc : Thread nD τ).loc b) = m ((c.tc : Thread nD τ).loc b) := fun c b hb hs =>
      (h.1 c _ (mem_uc b hs)).trans (W7_args m c b hb)
    exact ⟨fun c => ⟨hb c main_arg0 (by decide) (by decide), hb c main_arg1 (by decide) (by decide), hb c main_arg2 (by decide) (by decide),
      hb c main_arg3 (by decide) (by decide), hb c main_arg4 (by decide) (by decide), hb c main_arg5 (by decide) (by decide)⟩, h.2⟩)
    (run m ρ)

end Cert.KernelIdeal.Whole

end
-- ==== Proof.Transfer.lean ====
/-
  The kernel as written and the kernel read over the extended reals are one program text: their buffers, main
  function and procedures agree at every reading of the floats, so that what is proved of a run of the one holds of
  the other.
-/
module

public import proofs.«01_k».proof.Proof.Run
public import proofs.«01_k».proof.Proof.Gen.Kernel

@[expose] public section

set_option maxRecDepth 16384

noncomputable section

namespace Cert.Kernel.Whole

open Idealize.ShloMosaic Idealize.ShloMosaic.TcCoe Idealize.ShloMosaic.Tactic Idealize.SL.Sem

variable {F : FTy → Type} [FloatOps F]

theorem main_same : @Cert.Kernel.main F _ = @Cert.KernelIdeal.main F _ := rfl

theorem defs_same :
    (@Cert.Kernel.defs F _ Cert.Kernel.Gen.facts : _) = @Cert.KernelIdeal.defs F _ Cert.KernelIdeal.Gen.facts := by
  chain_rfl

/-- Every fair execution of the kernel as written ends with the arguments as launched and every counter at zero. -/
theorem frame (m : (ℓ : Loc Cert.Kernel.nD Cert.Kernel.τ Cert.Kernel.sig) → Buf (Elt F) ℓ)
    (ρ : Dev Cert.Kernel.nD → PrngReg) :
    θ_run (@Cert.Kernel.defs F _ Cert.Kernel.Gen.facts) (onTc (τ := Cert.Kernel.τ) (@Cert.Kernel.main F _)) ⟨m, fun _ => 0, ρ⟩
      (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0) := by
  rw [main_same, defs_same]
  exact Cert.KernelIdeal.Whole.frame (F := F) m ρ

end Cert.Kernel.Whole

end
-- ==== Proof.Finals.lean ====
/-
  What each call leaves in its results' arrays: the reweighting its four images combined entry by entry, the tile
  call its two sums whole, the visibility call the running sums and the counts.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit
public import Idealize.ShloMosaic.Lib.Tactic
public import Idealize.ShloMosaic.Lib.WordCmp
public import proofs.«01_k».proof.Proof.Ew
public import proofs.«01_k».proof.Proof.Tile
public import proofs.«01_k».proof.Proof.VisRegion

@[expose] public section

set_option maxRecDepth 16384

noncomputable section

namespace Cert.KernelIdeal.Finals

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

open Cert.Scan

variable (V : (c : Dev nD) → (b : Ref sig .tc) → Buf (Elt F) ((c : Thread nD τ).loc b))

/-- The four images combined. -/
def mix (a b c d : Vec F S1620x4x960 .f32) : Vec F S1620x4x960 .f32 := fun j =>
  FloatOps.addf (FloatOps.mulf (a j) (b j)) (FloatOps.mulf (c j) (d j))

theorem idx0 : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] := (by decide +kernel : ∀ t : Fin grid0.N, _)

/-- The reweighting call's result. -/
theorem ew_final (c : Dev nD) : (Ew.dat V c).arrAt 4 cfg0.N = mix (F := F) (V c main_v1) (V c main_v3) (V c main_v5) (V c main_v7) := by
  refine (Ew.dat V c).arrAt_eq_of_covers 4 _ (by decide +kernel) fun t hf y => ?_
  blk_simp
  rw [Ew.after_4]
  obtain ⟨e0, e1, e2, e3, e4⟩ := idx0 t
  have h0 : Ew.blockAt V c 0 t y = V c main_v1 ((win0_4.blk t).view.emb y) := by unfold Ew.blockAt; blk_ext [e0, e4]
  have h1 : Ew.blockAt V c 1 t y = V c main_v3 ((win0_4.blk t).view.emb y) := by unfold Ew.blockAt; blk_ext [e1, e4]
  have h2 : Ew.blockAt V c 2 t y = V c main_v5 ((win0_4.blk t).view.emb y) := by unfold Ew.blockAt; blk_ext [e2, e4]
  have h3 : Ew.blockAt V c 3 t y = V c main_v7 ((win0_4.blk t).view.emb y) := by unfold Ew.blockAt; blk_ext [e3, e4]
  unfold mix
  rw [← h0, ← h1, ← h2, ← h3]
  unfold k0_pay1
  simp only [shapeCast_self]
  rfl

/-- The tile call sees all the counts at once. -/
theorem tile_block (c : Dev nD) (t : Fin cfg1.N) : Tile.blockAt V c 0 t = (V c main_v12 : Vec F S270x2x4x960 .i32) := by
  have e : ∀ t : Fin cfg1.N, win1_0.index t = ![0, 0, 0, 0] := (by decide +kernel : ∀ t : Fin grid1.N, _)
  funext y
  unfold Tile.blockAt
  blk_ext [e t]

/-- The tile call's first result, -/
theorem tile_final_1 (c : Dev nD) : (Tile.dat V c).arrAt 1 cfg1.N = (Tile.excl (V c main_v12) : Vec F S1080x60 .i32) := by
  refine (Tile.dat V c).arrAt_eq_of_after_last 1 ⟨0, by decide⟩ (by decide +kernel) _ fun j => ?_
  blk_simp
  exact congrFun ((Tile.after_1 V c _).trans (congrArg (fun x => (Tile.excl x : Vec F S1080x60 .i32)) (tile_block V c _))) j

/-- and its second. -/
theorem tile_final_2 (c : Dev nD) : (Tile.dat V c).arrAt 2 cfg1.N = (Tile.grand (V c main_v12) : Vec F S4x1 .i32) := by
  refine (Tile.dat V c).arrAt_eq_of_after_last 2 ⟨0, by decide⟩ (by decide +kernel) _ fun j => ?_
  blk_simp
  exact congrFun ((Tile.after_2 V c _).trans (congrArg (fun x => (Tile.grand x : Vec F S4x1 .i32)) (tile_block V c _))) j

/-- The counts' block is written back once, whole, at the last visit. -/
theorem whole_2 : (cfg2.win 2).WholeAt (⟨30, by decide⟩ : Fin grid2.N) := by decide +kernel

/-- So its array ends at what the body leaves there. -/
theorem whole_final (c : Dev nD) (D : Dat τ (Elt F) Unit ℕ (UR sig nD τ) ℕ cfg2 c) (G : Vec F S4x1x1 .i32)
    (h : ∀ t, D.after 2 t = G) : D.arrAt 2 cfg2.N = G := by
  refine D.arrAt_eq_of_after_last 2 _ whole_2 _ fun j => ?_
  blk_simp
  exact congrFun (h _) j

/-- The visibility call's counts -/
theorem vis_final_2 (c : Dev nD) : (Vis.dat V c).arrAt 2 cfg2.N
    = ((fun j => upto (Vis.hit V c (j 0)) 500000 : IVec S4x1x1 32) : Vec F S4x1x1 .i32) :=
  whole_final c _ _ (Vis.after_2 V c)

/-- and its running sums. -/
theorem vis_final_1 (c : Dev nD) : (Vis.dat V c).arrAt 1 cfg2.N
    = ((fun j => upto (Vis.hit V c (j 0)) ((j 1).val + 1) - 1#32 : IVec S4x500000 32) : Vec F S4x500000 .i32) := by
  refine (Vis.dat V c).arrAt_eq_of_covers 1 _ (by decide +kernel) fun t hf y => ?_
  blk_simp
  rw [Vis.after_1]
  have e : ∀ t : Fin cfg2.N, win2_1.index t = ![0, t.val] := (by decide +kernel : ∀ t : Fin grid2.N, _)
  have h0 : (win2_1.blk t).view.emb y 0 = ((cfg2.win 1).xinj (cfg2.grid.coords t) y) 0 := by
    apply Fin.ext
    blk_simp [e t]
  have h1 : (((cfg2.win 1).xinj (cfg2.grid.coords t) y) 1).val = (y 1).val := rfl
  have h2 : win2_1.index t 1 = t.val := by rw [e t]; rfl
  rw [h0, h2, Nat.add_assoc]

end Cert.KernelIdeal.Finals

end
-- ==== Proof.TileScan.lean ====
/-
  The tile call's integers: running sums along the tile columns, then along the tile rows (four images interleaved
  in the rows of the matrix), then the step back by one tile. Everything here is over the matrix of tile sums.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit
public import Idealize.ShloMosaic.Lib.Tactic
public import Idealize.ShloMosaic.Lib.WordCmp
public import proofs.«01_k».proof.Proof.Tile
public import proofs.«01_k».proof.Proof.ScanSteps

@[expose] public section

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

open Cert.Scan

/-- The image rows of both parities added, the four images interleaved in the rows. -/
def pairs (a b : Vec F S270x1x4x960 .i32) : FVec F S1080x960 .bf16 :=
  shapeCast S1080x960 (addf (sitofp .bf16 (shapeCast S270x4x960 a shapeCasts_S270x1x4x960_S270x4x960 : IVec S270x4x960 32) : FVec F S270x4x960 .bf16)
    (sitofp .bf16 (shapeCast S270x4x960 b shapeCasts_S270x1x4x960_S270x4x960 : IVec S270x4x960 32))) shapeCasts_S270x4x960_S1080x960

/-- The matrix that adds sixteen neighbouring columns. -/
def groups : FVec F S960x60 .bf16 :=
  truncf .bf16 (select (cmpi .eq (shrsi (iota .tc S960x60 32 [0] iota_S960x60_d0_w32) (broadcast S960x60 4#32)) (iota .tc S960x60 32 [1] iota_S960x60_d1_w32))
    (broadcast S960x60 (Scalar.ofBits .f32 0x3F800000#32 : F .f32)) (broadcast S960x60 (Scalar.ofBits .f32 0x00000000#32 : F .f32))) bitsLt_bf16_f32

/-- The tile sums. -/
def base (x : Vec F S270x2x4x960 .i32) : IVec S1080x60 32 :=
  fptosi 32 (matmul dot_S1080x960_S960x60_S1080x60_1_0_0_1_n_n none (pairs (View.ld x evens) (View.ld x odds)) groups
    (constant S1080x60 .f32 0x00000000#32 : FVec F S1080x60 .f32))

variable {x : Vec F S270x2x4x960 .i32} {u : ℕ → ℕ → BitVec 32}

/-- The tile sums in the order of the tiles: the `k`-th of image `p`. -/
def along (u : ℕ → ℕ → BitVec 32) (p k : ℕ) : BitVec 32 := u (4 * (k / 60) + p) (k % 60)

/-- A part of a row of tiles. -/
theorem along_part (u : ℕ → ℕ → BitVec 32) (p h c : ℕ) (hc : c ≤ 60) :
    upto (fun j => along u p (60 * h + j)) c = upto (u (4 * h + p)) c := by
  refine upto_congr fun j hj => ?_
  have e1 : (60 * h + j) / 60 = h := by omega
  have e2 : (60 * h + j) % 60 = j := by omega
  unfold along
  rw [e1, e2]

/-- Whole rows. -/
theorem along_rows (u : ℕ → ℕ → BitVec 32) (p h : ℕ) :
    upto (along u p) (60 * h) = upto (fun i => upto (u (4 * i + p)) 60) h := by
  induction h with
  | zero => rw [Nat.mul_zero, upto_zero, upto_zero]
  | succ h ih => rw [Nat.mul_succ, upto_add, ih, along_part u p h 60 (le_refl _), upto_succ (fun i => upto (u (4 * i + p)) 60)]

/-- Whole rows and a part of the next. -/
theorem along_row (u : ℕ → ℕ → BitVec 32) (p h c : ℕ) (hc : c ≤ 60) :
    upto (along u p) (60 * h + c) = upto (fun i => upto (u (4 * i + p)) 60) h + upto (u (4 * h + p)) c := by
  rw [upto_add, along_part u p h c hc, along_rows]

section Sums

variable (hu : ∀ (r : Fin 1080) (c : Fin 60), base x (ix2 r c) = u r.val c.val)
include hu

theorem colSums_apply (r : Fin 1080) (c : Fin 60) : colSums x (ix2 r c) = upto (u r.val) (c.val + 1) := by
  have h1 : Cols (a := 1080) (n := 60) (base x) (fun r => u r.val) 1 := fun r c => by rw [last_one, hu]
  have h8 : Cols (a := 1080) (n := 60) (part x) (fun r => u r.val) 8 :=
    ((h1.step iota_S1080x60_d1_w32 rotates_S1080x60_d1 (by decide) (by decide)).step
      iota_S1080x60_d1_w32 rotates_S1080x60_d1 (by decide) (by decide)).step
      iota_S1080x60_d1_w32 rotates_S1080x60_d1 (by decide) (by decide)
  have h64 : Cols (a := 1080) (n := 60) (colSums x) (fun r => u r.val) 64 :=
    ((h8.step iota_S1080x60_d1_w32 rotates_S1080x60_d1 (by decide) (by decide)).step
      iota_S1080x60_d1_w32 rotates_S1080x60_d1 (by decide) (by decide)).step
      iota_S1080x60_d1_w32 rotates_S1080x60_d1 (by decide) (by decide)
  rw [h64 r c, last_all _ (by have := c.isLt; omega)]

theorem total_apply (r : Fin 1080) : total x (ix2 r 0) = upto (u r.val) 60 := by
  have h : total x (ix2 r 0) = colSums x (ix2 r (⟨59, by decide⟩ : Fin 60)) := by
    unfold total k1_pay4
    refine extractStridedSlice_apply _ _ _ _ _ fun a => ?_
    match a with
    | ⟨0, _⟩ => show r.val = 0 + r.val; omega
    | ⟨1, _⟩ => rfl
  rw [h, colSums_apply hu]

theorem rowSums_apply (r : Fin 1080) :
    rowSums x (ix2 r 0) = upto (fun i => upto (u (4 * i + r.val % 4)) 60) (r.val / 4 + 1) := by
  have h1 : Rows (n := 1080) 4 (total x) (fun p i => upto (u (4 * i + p)) 60) 1 := fun r => by
    rw [last_one, total_apply hu]
    show _ = upto (u (4 * (r.val / 4) + r.val % 4)) 60
    rw [show 4 * (r.val / 4) + r.val % 4 = r.val by omega]
  have h8 : Rows (n := 1080) 4 (k1_pay5 colNo (part x)) (fun p i => upto (u (4 * i + p)) 60) 8 :=
    ((h1.step iota_S1080x1_d0_w32 rotates_S1080x1_d0 (by decide) (by decide) (by decide)).step
      iota_S1080x1_d0_w32 rotates_S1080x1_d0 (by decide) (by decide) (by decide)).step
      iota_S1080x1_d0_w32 rotates_S1080x1_d0 (by decide) (by decide) (by decide)
  have h512 : Rows (n := 1080) 4 (rowSums x) (fun p i => upto (u (4 * i + p)) 60) 512 :=
    (((((h8.step iota_S1080x1_d0_w32 rotates_S1080x1_d0 (by decide) (by decide) (by decide)).step
      iota_S1080x1_d0_w32 rotates_S1080x1_d0 (by decide) (by decide) (by decide)).step
      iota_S1080x1_d0_w32 rotates_S1080x1_d0 (by decide) (by decide) (by decide)).step
      iota_S1080x1_d0_w32 rotates_S1080x1_d0 (by decide) (by decide) (by decide)).step
      iota_S1080x1_d0_w32 rotates_S1080x1_d0 (by decide) (by decide) (by decide)).step
      iota_S1080x1_d0_w32 rotates_S1080x1_d0 (by decide) (by decide) (by decide)
  rw [h512 r, last_all _ (by have := r.isLt; omega)]

theorem incl_apply (r : Fin 1080) (c : Fin 60) :
    incl x (ix2 r c) = upto (along u (r.val % 4)) (60 * (r.val / 4) + (c.val + 1)) := by
  have h : incl x (ix2 r c) = colSums x (ix2 r c) + (rowSums x (ix2 r 0) - total x (ix2 r 0)) := by
    refine congrArg₂ (· + ·) rfl ?_
    refine (broadcastTo_apply _ _ _ (ix2 r 0) fun a => ?_).trans rfl
    match a with
    | ⟨0, _⟩ => rfl
    | ⟨1, _⟩ => rfl
  rw [h, colSums_apply hu, rowSums_apply hu, total_apply hu, along_row u _ _ _ (by have := c.isLt; omega),
    upto_succ (fun i => upto (u (4 * i + r.val % 4)) 60)]
  beta_reduce
  rw [show 4 * (r.val / 4) + r.val % 4 = r.val by omega]
  abel

theorem grand_apply (p : Fin 4) : grand x (ix2 p 0) = upto (along u p.val) 16200 := by
  have hp := p.isLt
  have h : grand x (ix2 p 0) = incl x (ix2 (⟨1076 + p.val, by omega⟩ : Fin 1080) (⟨59, by decide⟩ : Fin 60)) := by
    unfold grand k1_pay9
    refine extractStridedSlice_apply _ _ _ _ _ fun a => ?_
    match a with
    | ⟨0, _⟩ => rfl
    | ⟨1, _⟩ => rfl
  rw [h, incl_apply hu]
  show upto (along u ((1076 + p.val) % 4)) (60 * ((1076 + p.val) / 4) + (59 + 1)) = _
  rw [show (1076 + p.val) % 4 = p.val by omega, show (1076 + p.val) / 4 = 269 by omega]

theorem excl_apply (r : Fin 1080) (c : Fin 60) :
    excl x (ix2 r c) = upto (along u (r.val % 4)) (60 * (r.val / 4) + c.val) := by
  have hr := r.isLt
  have hc := c.isLt
  have above : (select (cmpi .sge rowNo k1_pay10) (dynamicRotate 0 4#32 none (rowSums x) rotates_S1080x1_d0) (broadcast S1080x1 0#32) : IVec S1080x1 32)
      (ix2 r 0) = upto (along u (r.val % 4)) (60 * (r.val / 4)) := by
    refine (select_sge_apply rowNo 4#32 _ _ _ (s := 4) (iota_rows iota_S1080x1_d0_w32 r 0) rfl (by omega) (by omega)).trans ?_
    have e := along_row u (r.val % 4) (r.val / 4) 0 (by omega)
    rw [Nat.add_zero, upto_zero] at e
    rw [e]
    split
    · next h =>
      have hrot : dynamicRotate 0 4#32 none (rowSums x) rotates_S1080x1_d0 (ix2 r 0) = rowSums x (ix2 (⟨r.val - 4, by omega⟩ : Fin 1080) 0) := by
        refine dynamicRotate_apply _ _ _ _ _ _ fun b => ?_
        match b with
        | ⟨0, _⟩ => show r.val - 4 = (r.val + 1080 - 4 % 1080) % 1080; omega
        | ⟨1, _⟩ => rfl
      rw [hrot, rowSums_apply hu]
      show upto (fun i => upto (u (4 * i + (r.val - 4) % 4)) 60) ((r.val - 4) / 4 + 1) = _
      rw [show (r.val - 4) % 4 = r.val % 4 by omega, show (r.val - 4) / 4 + 1 = r.val / 4 by omega]
      simp
    · next h => rw [show r.val / 4 = 0 by omega]; rfl
  have hsel : excl x (ix2 r c) = if 1 ≤ c.val then dynamicRotate 1 1#32 none (incl x) rotates_S1080x60_d1 (ix2 r c)
      else upto (along u (r.val % 4)) (60 * (r.val / 4)) := by
    refine (select_sge_apply colNo 1#32 _ _ _ (s := 1) (iota_cols iota_S1080x60_d1_w32 r c) rfl (by omega) (by omega)).trans ?_
    split
    · rfl
    · rw [← above]
      refine (broadcastTo_apply _ _ _ (ix2 r 0) fun a => ?_).trans ?_
      · match a with
        | ⟨0, _⟩ => rfl
        | ⟨1, _⟩ => rfl
      · rw [shapeCast_self]
  rw [hsel]
  split
  · next h =>
    have hrot : dynamicRotate 1 1#32 none (incl x) rotates_S1080x60_d1 (ix2 r c) = incl x (ix2 r (⟨c.val - 1, by omega⟩ : Fin 60)) := by
      refine dynamicRotate_apply _ _ _ _ _ _ fun b => ?_
      match b with
      | ⟨0, _⟩ => rfl
      | ⟨1, _⟩ => show c.val - 1 = (c.val + 60 - 1 % 60) % 60; omega
    rw [hrot, incl_apply hu]
    show upto _ (60 * (r.val / 4) + (c.val - 1 + 1)) = _
    rw [show c.val - 1 + 1 = c.val by omega]
  · next h => rw [show c.val = 0 by omega, Nat.add_zero]

end Sums

end Cert.KernelIdeal.Tile

end
-- ==== Proof.TileProduct.lean ====
/-
  The tile call's product over the ideal reals: with every count below 64 the product of the paired rows with the
  grouping matrix is the exact sum of a 2 × 16 tile, a whole number far from the ends of the words' range.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit
public import Idealize.ShloMosaic.Lib.Tactic
public import Idealize.ShloMosaic.Lib.WordCmp
public import proofs.«01_k».proof.Proof.TileScan
public import Idealize.ShloMosaic.Lib.MatmulPlain
public import Idealize.ShloMosaic.Lib.IdealHost

@[expose] public section

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

open Cert.Scan

/-- A count below 64 read as a signed word is itself. -/
theorem toInt_small (v : BitVec 32) (h : v.toNat < 64) : v.toInt = (v.toNat : ℤ) := by
  rw [BitVec.toInt_eq_toNat_of_lt]; omega

/-- A whole number within the words' range survives the conversion. -/
theorem fptosi_nat (n : ℕ) (h : n < 2 ^ 31) : Ideal.fptosi 32 (((n : ℝ) : EReal)) = BitVec.ofNat 32 n := by
  have e : Ideal.toIntClamped (-(2 ^ (32 - 1) : Nat)) ((2 ^ (32 - 1) : Nat) - 1) (((n : ℝ) : EReal)) = (n : ℤ) := by
    rw [Ideal.toIntClamped_coe, if_pos (Nat.cast_nonneg n), Int.floor_natCast]
    norm_num
    omega
  unfold Ideal.fptosi
  rw [e]
  exact BitVec.ofInt_natCast 32 n

/-- The pairs' entry: the two counts of a column added. -/
theorem pairs_apply (x : Vec Ideal S270x2x4x960 .i32) (hx : ∀ j, (x j : BitVec 32).toNat < 64) (r : Fin 1080) (k : Fin 960) :
    pairs (View.ld x evens) (View.ld x odds) (ix2 r k)
      = ((((x (ix4 (⟨r.val / 4, by omega⟩ : Fin 270) (0 : Fin 2) (⟨r.val % 4, by omega⟩ : Fin 4) k) : BitVec 32).toNat
          + (x (ix4 (⟨r.val / 4, by omega⟩ : Fin 270) (1 : Fin 2) (⟨r.val % 4, by omega⟩ : Fin 4) k) : BitVec 32).toNat : ℕ) : ℝ) : EReal) := by
  have hr := r.isLt
  have hk := k.isLt
  unfold pairs
  refine (shapeCast_apply _ _ _ (ix3 (⟨r.val / 4, by omega⟩ : Fin 270) (⟨r.val % 4, by omega⟩ : Fin 4) k) ?_).trans ?_
  · rw [Shape.rowMajor_val_three, Shape.rowMajor_val_two]
    show (r.val / 4 * 4 + r.val % 4) * 960 + k.val = r.val * 960 + k.val
    omega
  have ha : (shapeCast S270x4x960 (View.ld x evens) shapeCasts_S270x1x4x960_S270x4x960 : IVec S270x4x960 32)
      (ix3 (⟨r.val / 4, by omega⟩ : Fin 270) (⟨r.val % 4, by omega⟩ : Fin 4) k)
      = x (ix4 (⟨r.val / 4, by omega⟩ : Fin 270) (0 : Fin 2) (⟨r.val % 4, by omega⟩ : Fin 4) k) := by
    refine (shapeCast_apply _ _ _ (ix4 (⟨r.val / 4, by omega⟩ : Fin 270) (0 : Fin 1) (⟨r.val % 4, by omega⟩ : Fin 4) k) ?_).trans ?_
    · rw [Shape.rowMajor_val_three, Shape.rowMajor_val_four]
      show ((r.val / 4 * 1 + 0) * 4 + r.val % 4) * 960 + k.val = (r.val / 4 * 4 + r.val % 4) * 960 + k.val
      omega
    · refine congrArg x (funext fun d => Fin.ext ?_)
      match d with
      | ⟨0, _⟩ => show 0 + 1 * (r.val / 4) = r.val / 4; omega
      | ⟨1, _⟩ => rfl
      | ⟨2, _⟩ => show 0 + 1 * (r.val % 4) = r.val % 4; omega
      | ⟨3, _⟩ => show 0 + 1 * k.val = k.val; omega
  have hb : (shapeCast S270x4x960 (View.ld x odds) shapeCasts_S270x1x4x960_S270x4x960 : IVec S270x4x960 32)
      (ix3 (⟨r.val / 4, by omega⟩ : Fin 270) (⟨r.val % 4, by omega⟩ : Fin 4) k)
      = x (ix4 (⟨r.val / 4, by omega⟩ : Fin 270) (1 : Fin 2) (⟨r.val % 4, by omega⟩ : Fin 4) k) := by
    refine (shapeCast_apply _ _ _ (ix4 (⟨r.val / 4, by omega⟩ : Fin 270) (0 : Fin 1) (⟨r.val % 4, by omega⟩ : Fin 4) k) ?_).trans ?_
    · rw [Shape.rowMajor_val_three, Shape.rowMajor_val_four]
      show ((r.val / 4 * 1 + 0) * 4 + r.val % 4) * 960 + k.val = (r.val / 4 * 4 + r.val % 4) * 960 + k.val
      omega
    · refine congrArg x (funext fun d => Fin.ext ?_)
      match d with
      | ⟨0, _⟩ => show 0 + 1 * (r.val / 4) = r.val / 4; omega
      | ⟨1, _⟩ => rfl
      | ⟨2, _⟩ => show 0 + 1 * (r.val % 4) = r.val % 4; omega
      | ⟨3, _⟩ => show 0 + 1 * k.val = k.val; omega
  have key : ∀ v w : BitVec 32, v.toNat < 64 → w.toNat < 64 →
      (((v.toInt : ℝ) : EReal) + ((w.toInt : ℝ) : EReal)) = (((v.toNat + w.toNat : ℕ) : ℝ) : EReal) := fun v w hv hw => by
    rw [toInt_small v hv, toInt_small w hw, ← EReal.coe_add]
    push_cast
    rfl
  rw [← key _ _ (hx _) (hx _), ← ha, ← hb]
  rfl

/-- A column's group is its number over sixteen. -/
theorem shifted : ∀ k : Fin 960, (BitVec.ofNat 32 k.val).sshiftRight' 4#32 = BitVec.ofNat 32 (k.val / 16) := by decide +kernel

/-- The grouping matrix's entry: one where the column of the counts lies in the tile's column. -/
theorem groups_apply (k : Fin 960) (c : Fin 60) :
    (groups (F := Ideal)) (ix2 k c) = if k.val / 16 = c.val then (1 : EReal) else 0 := by
  have hk := k.isLt
  have hc := c.isLt
  have h : (groups (F := Ideal)) (ix2 k c) = Scalar.select (IntOp.cmpi .eq (IntOp.shrsi .vector (iota .tc S960x60 32 [0] iota_S960x60_d0_w32 (ix2 k c)) 4#32)
      (iota .tc S960x60 32 [1] iota_S960x60_d1_w32 (ix2 k c))) (Ideal.ofBits .f32 0x3F800000#32) (Ideal.ofBits .f32 0x00000000#32) := rfl
  have e : IntOp.shrsi .vector (BitVec.ofNat 32 k.val) 4#32 = BitVec.ofNat 32 (k.val / 16) := by
    rw [← shifted k]; rfl
  rw [h, iota_rows iota_S960x60_d0_w32 k c, e, iota_cols iota_S960x60_d1_w32 k c, Ideal.ofBits_one_f32, Ideal.ofBits_zero_f32]
  by_cases hkc : k.val / 16 = c.val
  · rw [if_pos hkc, hkc]
    have : IntOp.cmpi .eq (BitVec.ofNat 32 c.val) (BitVec.ofNat 32 c.val) = 1#1 := by simp [IntOp.cmpi]
    rw [this]; rfl
  · rw [if_neg hkc]
    have hne : BitVec.ofNat 32 (k.val / 16) ≠ BitVec.ofNat 32 c.val := fun h => hkc (by
      have := congrArg BitVec.toNat h
      rw [BitVec.toNat_ofNat, BitVec.toNat_ofNat] at this
      omega)
    have : IntOp.cmpi .eq (BitVec.ofNat 32 (k.val / 16)) (BitVec.ofNat 32 c.val) = 0#1 := by
      simp only [IntOp.cmpi]; rw [beq_eq_false_iff_ne.mpr hne]; rfl
    rw [this]; rfl

/-- The sum over the 960 columns against the grouping matrix keeps sixteen of them. -/
theorem group_sum (g : ℕ → ℕ) (c : Fin 60) : (∑ k : Fin 960, if k.val / 16 = c.val then g k.val else 0) = ∑ b : Fin 16, g (16 * c.val + b.val) := by
  have h := Equiv.sum_comp (finProdFinEquiv : Fin 60 × Fin 16 ≃ Fin (60 * 16)) (fun k : Fin (60 * 16) => if k.val / 16 = c.val then g k.val else 0)
  refine h.symm.trans ?_
  rw [Fintype.sum_prod_type, Finset.sum_eq_single c]
  · refine Finset.sum_congr rfl fun b _ => ?_
    show (if (b.val + 16 * c.val) / 16 = c.val then g (b.val + 16 * c.val) else 0) = _
    have := b.isLt
    rw [if_pos (by omega), Nat.add_comm]
  · intro a _ ha
    refine Finset.sum_eq_zero fun b _ => ?_
    show (if (b.val + 16 * a.val) / 16 = c.val then g (b.val + 16 * a.val) else 0) = _
    have := b.isLt
    exact if_neg fun h => ha (Fin.ext (by omega))
  · exact fun h => absurd (Finset.mem_univ c) h

/-- The product's entry, a sum of real numbers. -/
theorem product_apply (x : Vec Ideal S270x2x4x960 .i32) (r : Fin 1080) (c : Fin 60) (g : ℕ → ℕ)
    (hg : ∀ k : Fin 960, pairs (View.ld x evens) (View.ld x odds) (ix2 r k) = (((g k.val : ℕ) : ℝ) : EReal)) :
    (matmul dot_S1080x960_S960x60_S1080x60_1_0_0_1_n_n none (pairs (View.ld x evens) (View.ld x odds)) groups
      (constant S1080x60 .f32 0x00000000#32 : FVec Ideal S1080x60 .f32)) (ix2 r c)
      = ((((∑ b : Fin 16, g (16 * c.val + b.val) : ℕ) : ℝ)) : EReal) := by
  have h : FloatOps.matmul (DotDims.plain 1080 960 60) none (pairs (View.ld x evens) (View.ld x odds)) (groups (F := Ideal))
      (constant S1080x60 .f32 0x00000000#32 : FVec Ideal S1080x60 .f32) (ix2 r c)
      = (constant S1080x60 .f32 0x00000000#32 : FVec Ideal S1080x60 .f32) (ix2 r c)
        + ∑ k : Fin 960, pairs (View.ld x evens) (View.ld x odds) (ix2 r k) * (groups (F := Ideal)) (ix2 k c) :=
    Ideal.matmul_plain_apply none _ _ _ r c
  have h0 : (constant S1080x60 .f32 0x00000000#32 : FVec Ideal S1080x60 .f32) (ix2 r c) = (0 : EReal) := Ideal.ofBits_zero_f32
  have hd : (dot_S1080x960_S960x60_S1080x60_1_0_0_1_n_n : DotDims S1080x960 S960x60 S1080x60) = DotDims.plain 1080 960 60 := rfl
  rw [hd]
  refine h.trans ?_
  rw [h0, zero_add, ← group_sum g c]
  have hterm : ∀ k : Fin 960, pairs (View.ld x evens) (View.ld x odds) (ix2 r k) * (groups (F := Ideal)) (ix2 k c)
      = ((((if k.val / 16 = c.val then g k.val else 0 : ℕ) : ℝ)) : EReal) := fun k => by
    rw [hg k, groups_apply k c]
    by_cases hkc : k.val / 16 = c.val
    · rw [if_pos hkc, if_pos hkc, mul_one]
    · rw [if_neg hkc, if_neg hkc, mul_zero]; simp
  rw [Finset.sum_congr rfl fun k _ => hterm k]
  have : ∀ (s : Finset (Fin 960)) (f : Fin 960 → ℕ), (∑ k ∈ s, (((f k : ℕ) : ℝ) : EReal)) = (((∑ k ∈ s, f k : ℕ) : ℝ) : EReal) := fun s f => by
    classical
    induction s using Finset.induction_on with
    | empty => simp
    | insert a s ha ih => rw [Finset.sum_insert ha, Finset.sum_insert ha, ih, Nat.cast_add, EReal.coe_add]
  exact this _ _

/-- Sums of words of natural numbers. -/
theorem ofNat_sum (f : Fin 16 → ℕ) : BitVec.ofNat 32 (∑ b, f b) = ∑ b, BitVec.ofNat 32 (f b) := by
  classical
  have : ∀ s : Finset (Fin 16), BitVec.ofNat 32 (∑ b ∈ s, f b) = ∑ b ∈ s, BitVec.ofNat 32 (f b) := fun s => by
    induction s using Finset.induction_on with
    | empty => rfl
    | insert a s ha ih => rw [Finset.sum_insert ha, Finset.sum_insert ha, ← ih, BitVec.ofNat_add]
  exact this _

/-- The tile sums, for counts below 64: the sums of the 2 × 16 entries as words. -/
theorem base_apply (x : Vec Ideal S270x2x4x960 .i32) (hx : ∀ j, (x j : BitVec 32).toNat < 64) (y : ℕ → ℕ → BitVec 32) (r : Fin 1080) (c : Fin 60)
    (hy : ∀ (a : Fin 2) (k : Fin 960), x (ix4 (⟨r.val / 4, by omega⟩ : Fin 270) a (⟨r.val % 4, by omega⟩ : Fin 4) k) = y a.val k.val) :
    base x (ix2 r c) = ∑ a : Fin 2, ∑ b : Fin 16, y a.val (16 * c.val + b.val) := by
  have hc := c.isLt
  have hlt : ∀ (a : Fin 2) (k : ℕ), k < 960 → (y a.val k).toNat < 64 := fun a k hk => by
    rw [← hy a ⟨k, hk⟩]; exact hx _
  have hp := product_apply x r c (fun k => (y 0 k).toNat + (y 1 k).toNat) (fun k => by
    rw [pairs_apply x hx r k, hy 0 k, hy 1 k]; rfl)
  have hb : base x (ix2 r c) = Ideal.fptosi 32 ((matmul dot_S1080x960_S960x60_S1080x60_1_0_0_1_n_n none (pairs (View.ld x evens) (View.ld x odds)) groups
      (constant S1080x60 .f32 0x00000000#32 : FVec Ideal S1080x60 .f32)) (ix2 r c)) := rfl
  rw [hb, hp, fptosi_nat]
  · rw [ofNat_sum, Fin.sum_univ_two, ← Finset.sum_add_distrib]
    refine Finset.sum_congr rfl fun b _ => ?_
    rw [BitVec.ofNat_add, BitVec.ofNat_toNat, BitVec.ofNat_toNat, BitVec.setWidth_eq, BitVec.setWidth_eq]
    rfl
  · have : (∑ b : Fin 16, ((y 0 (16 * c.val + b.val)).toNat + (y 1 (16 * c.val + b.val)).toNat)) ≤ ∑ b : Fin 16, 128 :=
      Finset.sum_le_sum fun b _ => by
        have hb := b.isLt
        have h0 := hlt 0 (16 * c.val + b.val) (by omega)
        have h1 := hlt 1 (16 * c.val + b.val) (by omega)
        have h0' : (y 0 (16 * c.val + b.val)).toNat < 64 := h0
        have h1' : (y 1 (16 * c.val + b.val)).toNat < 64 := h1
        omega
    refine lt_of_le_of_lt this ?_
    simp

end Cert.KernelIdeal.Tile

end
-- ==== Proof.HostSums.lean ====
/-
  The sums that the reference takes on the host, read at an entry as wrapping sums of 32-bit words: the running sum
  along the rows of a matrix, and the sum of the 2 × 16 tiles of a stack of images. Nothing here names a program.
-/
module

public import proofs.«01_k».proof.Proof.Scan
public import Idealize.ShloMosaic.Lib.Routing.OpsOne

@[expose] public section

noncomputable section

namespace Cert.HostSums

open Idealize.ShloMosaic Idealize.ShloMosaic.Routing Cert.Scan

/-- Entry `j` of row `r` of a matrix, zero beyond its last column. -/
def rowAt {M N : ℕ} (x : IVec (shape2 M N) 32) (r : Fin M) (j : ℕ) : BitVec 32 :=
  if h : j < N then x (ix2 r ⟨j, h⟩) else 0

theorem rowAt_fin {M N : ℕ} (x : IVec (shape2 M N) 32) (r : Fin M) (j : Fin N) : rowAt x r j.val = x (ix2 r j) :=
  dif_pos j.isLt

/-- The running sum along the rows of a matrix, as it prints: entry `(r, j)` is the sum of row `r` up to column `j`. -/
theorem cumsum_row {M N lo : ℕ} (hN : lo + 1 = N) (x : IVec (shape2 M N) 32) (init : IVec shape0 32) (hinit : init ix0 = 0#32)
    (h : (shape2 M N).ReduceWindows (![1, N] : Fin 2 → Nat) ![1, 1] ![0, lo] ![0, 0] (shape2 M N))
    (hu : 0 < shape0.numel) (r : Fin M) (j : Fin N) :
    Host.reduceWindow IntOp.addi ![1, N] ![1, 1] ![0, lo] ![0, 0] x init h hu (ix2 r j) = upto (rowAt x r) (j.val + 1) := by
  subst hN
  have hv : init (Shape.Idx.first hu) = BitVec.ofNat 32 0 := (congrArg init (funext fun a => a.elim0)).trans hinit
  have hj := j.isLt
  have hr := r.isLt
  unfold Host.reduceWindow
  refine (foldl_addi_ofNat _ _ (fun n => if lo ≤ j.val + n.val then (rowAt x r (j.val + n.val - lo)).toNat else 0) (fun n _ => ?_) _ 0 hv).trans ?_
  · have hw0 : ((shape2 1 (lo + 1)).rowMajor.symm n 0).val = 0 := by rw [symm2]; rfl
    have hw : ((shape2 1 (lo + 1)).rowMajor.symm n 1).val = n.val := by rw [symm2]; rfl
    have hn : n.val < lo + 1 := (n.cast (numel2 _)).isLt
    dsimp only
    split
    · next hin =>
      have h1 := hin 1
      change lo ≤ j.val * 1 + ((shape2 1 (lo + 1)).rowMajor.symm n 1).val
        ∧ j.val * 1 + ((shape2 1 (lo + 1)).rowMajor.symm n 1).val - lo < lo + 1 at h1
      rw [hw] at h1
      rw [if_pos (by omega), BitVec.ofNat_toNat, BitVec.setWidth_eq]
      refine Eq.trans (congrArg x (funext fun a => Fin.ext ?_)) (rowAt_fin x r ⟨j.val + n.val - lo, by omega⟩).symm
      match a with
      | ⟨0, _⟩ =>
        show r.val * 1 + ((shape2 1 (lo + 1)).rowMajor.symm n 0).val - 0 = r.val
        rw [hw0]; omega
      | ⟨1, _⟩ =>
        show j.val * 1 + ((shape2 1 (lo + 1)).rowMajor.symm n 1).val - lo = j.val + n.val - lo
        rw [hw, Nat.mul_one]
    · next hin =>
      rw [if_neg fun hle => hin fun a => by
        match a with
        | ⟨0, _⟩ =>
          show 0 ≤ r.val * 1 + ((shape2 1 (lo + 1)).rowMajor.symm n 0).val ∧ r.val * 1 + ((shape2 1 (lo + 1)).rowMajor.symm n 0).val - 0 < M
          rw [hw0]
          omega
        | ⟨1, _⟩ =>
          show lo ≤ j.val * 1 + ((shape2 1 (lo + 1)).rowMajor.symm n 1).val
            ∧ j.val * 1 + ((shape2 1 (lo + 1)).rowMajor.symm n 1).val - lo < lo + 1
          rw [hw]
          omega]
      exact hv
  · rw [Nat.zero_add, map_finRange_val _ (fun w => if lo ≤ j.val + w then (rowAt x r (j.val + w - lo)).toNat else 0)]
    refine (congrArg (BitVec.ofNat 32) ((congrArg (fun M => ((List.range M).map fun w => if lo ≤ j.val + w then (rowAt x r (j.val + w - lo)).toNat else 0).sum)
      (numel2 (lo + 1))).trans (sum_window (fun i => (rowAt x r i).toNat) lo j.val (by omega)))).trans ?_
    rw [ofNat_sum_range]
    refine Finset.sum_congr rfl fun i _ => ?_
    rw [BitVec.ofNat_toNat, BitVec.setWidth_eq]

/-- A fold of word addition over a finite set from zero is the sum over it. -/
theorem fold_addi {ι : Type} (s : Finset ι) (g : ι → BitVec 32) : Finset.fold IntOp.addi 0#32 g s = ∑ i ∈ s, g i := by
  classical
  induction s using Finset.induction_on with
  | empty => rfl
  | insert a s ha ih => rw [Finset.fold_insert ha, Finset.sum_insert ha, ih]; rfl

/-- The sum over the two inner axes of a stack of tiled images: at image `p`, tile row `q`, tile column `w` the sum of the tile. -/
theorem tile_sum {A B C D E : ℕ} (x : IVec (⟨5, ![A, B, C, D, E]⟩ : Shape) 32) (init : IVec shape0 32) (hinit : init ix0 = 0#32)
    (h : (⟨5, ![A, B, C, D, E]⟩ : Shape).ReducesTo [2, 4] (⟨3, ![A, B, D]⟩ : Shape)) (hu : 0 < shape0.numel)
    (p : Fin A) (q : Fin B) (w : Fin D) :
    Host.reduce IntOp.addi x init h hu (ix3 p q w) = ∑ a : Fin C, ∑ b : Fin E, x (ix5 p q a w b) := by
  classical
  have hv : init (Shape.Idx.first hu) = 0#32 := (congrArg init (funext fun a => a.elim0)).trans hinit
  have hdrop : ∀ i : (⟨5, ![A, B, C, D, E]⟩ : Shape).Idx, h.drop i = ix3 p q w ↔ i 0 = p ∧ i 1 = q ∧ i 3 = w := by
    intro i
    have hv0 : (h.drop i 0 : Nat) = i 0 := Shape.ReducesTo.drop_apply_val h i 0
    have hv1 : (h.drop i 1 : Nat) = i 1 := Shape.ReducesTo.drop_apply_val h i 1
    have hv2 : (h.drop i 2 : Nat) = i 3 := Shape.ReducesTo.drop_apply_val h i 2
    constructor
    · intro e
      rw [e] at hv0 hv1 hv2
      exact ⟨Fin.ext hv0.symm, Fin.ext hv1.symm, Fin.ext hv2.symm⟩
    · rintro ⟨e0, e1, e2⟩
      funext c
      match c with
      | ⟨0, _⟩ => exact Fin.ext (hv0.trans (congrArg Fin.val e0))
      | ⟨1, _⟩ => exact Fin.ext (hv1.trans (congrArg Fin.val e1))
      | ⟨2, _⟩ => exact Fin.ext (hv2.trans (congrArg Fin.val e2))
  rw [Host.reduce_eq_fold, hv, fold_addi, ← Fintype.sum_prod_type']
  refine Finset.sum_bij' (fun i _ => ((i 2 : Fin C), (i 4 : Fin E))) (fun ab _ => ix5 p q ab.1 w ab.2) (fun _ _ => Finset.mem_univ _)
    (fun ab _ => Finset.mem_filter.2 ⟨Finset.mem_univ _, (hdrop _).2 ⟨rfl, rfl, rfl⟩⟩) ?_ (fun _ _ => rfl) ?_
  · intro i hi
    obtain ⟨e0, e1, e2⟩ := (hdrop i).1 (Finset.mem_filter.1 hi).2
    funext c
    match c with
    | ⟨0, _⟩ => exact e0.symm
    | ⟨1, _⟩ => exact e1.symm
    | ⟨2, _⟩ => rfl
    | ⟨3, _⟩ => exact e2.symm
    | ⟨4, _⟩ => rfl
  · intro i hi
    obtain ⟨e0, e1, e2⟩ := (hdrop i).1 (Finset.mem_filter.1 hi).2
    refine congrArg x (funext fun c => ?_)
    match c with
    | ⟨0, _⟩ => exact e0
    | ⟨1, _⟩ => exact e1
    | ⟨2, _⟩ => rfl
    | ⟨3, _⟩ => exact e2
    | ⟨4, _⟩ => rfl

/-- Entry `(r, c)` of image `p`, zero outside the image. -/
def cell {A R C : ℕ} (x : IVec (shape3 A R C) 32) (p : Fin A) (r c : ℕ) : BitVec 32 :=
  if h : r < R ∧ c < C then x (ix3 p ⟨r, h.1⟩ ⟨c, h.2⟩) else 0

theorem cell_fin {A R C : ℕ} (x : IVec (shape3 A R C) 32) (p : Fin A) (r : Fin R) (c : Fin C) :
    cell x p r.val c.val = x (ix3 p r c) := dif_pos ⟨r.isLt, c.isLt⟩

/-- The sum of the 2 × 16 tile at tile row `h` and tile column `w` of image `p`. -/
def tile {A R C : ℕ} (x : IVec (shape3 A R C) 32) (p : Fin A) (h w : ℕ) : BitVec 32 :=
  ∑ a : Fin 2, ∑ b : Fin 16, cell x p (2 * h + a.val) (16 * w + b.val)

/-- Tile `k` of image `p`, counted along the rows of 60 tiles. -/
def flat {A R C : ℕ} (x : IVec (shape3 A R C) 32) (p : Fin A) (k : ℕ) : BitVec 32 := tile x p (k / 60) (k % 60)

end Cert.HostSums

end
-- ==== Proof.Results.lean ====
/-
  The program's results in terms of its arguments: the reads of the host lines at coordinates, chained through the
  three calls.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit
public import Idealize.ShloMosaic.Lib.Tactic
public import Idealize.ShloMosaic.Lib.WordCmp
public import proofs.«01_k».proof.Proof.Run
public import proofs.«01_k».proof.Proof.Finals
public import proofs.«01_k».proof.Proof.TileProduct
public import proofs.«01_k».proof.Proof.HostSums

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

open Cert.Scan Cert.HostSums

/-! ## The host lines -/

variable (W : Valuation τ sig (Elt F))

/-- An image with its rows first, all channels one after another. -/
def rowsFirst (x : Vec F S4x3x540x960 .f32) : Vec F S1620x4x960 .f32 :=
  shapeCast S1620x4x960 (transpose S3x540x4x960 [1, 2, 0, 3] x transposes_S4x3x540x960_S3x540x4x960_1_2_0_3) shapeCasts_S3x540x4x960_S1620x4x960

theorem rowsFirst_apply (x : Vec F S4x3x540x960 .f32) (ch : Fin 3) (h : Fin 540) (p : Fin 4) (w : Fin 960) :
    rowsFirst x (ix3 (⟨ch.val * 540 + h.val, by omega⟩ : Fin 1620) p w) = x (ix4 p ch h w) := by
  unfold rowsFirst
  refine (shapeCast_apply _ _ _ (ix4 ch h p w) ?_).trans ?_
  · rw [Shape.rowMajor_val_three, Shape.rowMajor_val_four]
    show ((ch.val * 540 + h.val) * 4 + p.val) * 960 + w.val = ((ch.val * 540 + h.val) * 4 + p.val) * 960 + w.val
    rfl
  · refine transpose_apply _ _ _ _ _ fun b => ?_
    match b with
    | ⟨0, _⟩ => rfl
    | ⟨1, _⟩ => rfl
    | ⟨2, _⟩ => rfl
    | ⟨3, _⟩ => rfl

theorem host0_v1 : (StableHlo.after hostOps0 W main_v1 : Vec F S1620x4x960 .f32) = rowsFirst (F := F) (W main_arg2) := by after_results <;> rfl
theorem host0_v3 : (StableHlo.after hostOps0 W main_v3 : Vec F S1620x4x960 .f32) = rowsFirst (F := F) (W main_arg3) := by after_results <;> rfl
theorem host0_v5 : (StableHlo.after hostOps0 W main_v5 : Vec F S1620x4x960 .f32) = rowsFirst (F := F) (W main_arg4) := by after_results <;> rfl
theorem host0_v7 : (StableHlo.after hostOps0 W main_v7 : Vec F S1620x4x960 .f32) = rowsFirst (F := F) (W main_arg5) := by after_results <;> rfl

/-- The reweighted image brought back. -/
theorem host1_v10 (p : Fin 4) (ch : Fin 3) (h : Fin 540) (w : Fin 960) :
    (StableHlo.after hostOps1 W main_v10 : Vec F S4x3x540x960 .f32) (ix4 p ch h w)
      = (W main_v8 : Vec F S1620x4x960 .f32) (ix3 (⟨ch.val * 540 + h.val, by omega⟩ : Fin 1620) p w) := by
  have e : (StableHlo.after hostOps1 W main_v10 : Vec F S4x3x540x960 .f32)
      = transpose S4x3x540x960 [2, 0, 1, 3] (shapeCast S3x540x4x960 (W main_v8 : Vec F S1620x4x960 .f32) shapeCasts_S1620x4x960_S3x540x4x960)
        transposes_S3x540x4x960_S4x3x540x960_2_0_1_3 := by after_results <;> rfl
  rw [e]
  refine (transpose_apply _ _ _ _ (ix4 ch h p w) fun b => ?_).trans ?_
  · match b with
    | ⟨0, _⟩ => rfl
    | ⟨1, _⟩ => rfl
    | ⟨2, _⟩ => rfl
    | ⟨3, _⟩ => rfl
  · refine shapeCast_apply (s := S1620x4x960) _ _ _ _ ?_
    rw [Shape.rowMajor_val_three, Shape.rowMajor_val_four]
    rfl

/-- The counts in the order of the tile call. -/
theorem host1_v12 (h : Fin 270) (a : Fin 2) (p : Fin 4) (k : Fin 960) :
    (StableHlo.after hostOps1 W main_v12 : Vec F S270x2x4x960 .i32) (ix4 h a p k)
      = (W main_arg0 : Vec F S4x540x960 .i32) (ix3 p (⟨2 * h.val + a.val, by omega⟩ : Fin 540) k) := by
  have e : (StableHlo.after hostOps1 W main_v12 : Vec F S270x2x4x960 .i32)
      = shapeCast S270x2x4x960 (transpose S540x4x960 [1, 0, 2] (W main_arg0 : Vec F S4x540x960 .i32) transposes_S4x540x960_S540x4x960_1_0_2)
        shapeCasts_S540x4x960_S270x2x4x960 := by after_results <;> rfl
  rw [e]
  refine (shapeCast_apply _ _ _ (ix3 (⟨2 * h.val + a.val, by omega⟩ : Fin 540) p k) ?_).trans ?_
  · rw [Shape.rowMajor_val_three, Shape.rowMajor_val_four]
    show ((2 * h.val + a.val) * 4 + p.val) * 960 + k.val = ((h.val * 2 + a.val) * 4 + p.val) * 960 + k.val
    omega
  · refine transpose_apply _ _ _ _ _ fun b => ?_
    match b with
    | ⟨0, _⟩ => rfl
    | ⟨1, _⟩ => rfl
    | ⟨2, _⟩ => rfl

/-- The tile sums in the order of the images. -/
theorem host2_v16 (p : Fin 4) (k : Fin 16200) :
    (StableHlo.after hostOps2 W main_v16 : Vec F S4x16200 .i32) (ix2 p k)
      = (W main_v13_0 : Vec F S1080x60 .i32) (ix2 (⟨4 * (k.val / 60) + p.val, by omega⟩ : Fin 1080) (⟨k.val % 60, by omega⟩ : Fin 60)) := by
  have hk := k.isLt
  have hp := p.isLt
  have e : (StableHlo.after hostOps2 W main_v16 : Vec F S4x16200 .i32)
      = shapeCast S4x16200 (transpose S4x270x60 [1, 0, 2] (shapeCast S270x4x60 (W main_v13_0 : Vec F S1080x60 .i32) shapeCasts_S1080x60_S270x4x60)
        transposes_S270x4x60_S4x270x60_1_0_2) shapeCasts_S4x270x60_S4x16200 := by after_results <;> rfl
  rw [e]
  refine (shapeCast_apply _ _ _ (ix3 p (⟨k.val / 60, by omega⟩ : Fin 270) (⟨k.val % 60, by omega⟩ : Fin 60)) ?_).trans ?_
  · rw [Shape.rowMajor_val_three, Shape.rowMajor_val_two]
    show (p.val * 270 + k.val / 60) * 60 + k.val % 60 = p.val * 16200 + k.val
    omega
  refine (transpose_apply _ _ _ _ (ix3 (⟨k.val / 60, by omega⟩ : Fin 270) p (⟨k.val % 60, by omega⟩ : Fin 60)) fun b => ?_).trans ?_
  · match b with
    | ⟨0, _⟩ => rfl
    | ⟨1, _⟩ => rfl
    | ⟨2, _⟩ => rfl
  · refine shapeCast_apply (s := S1080x60) _ _ _ _ ?_
    rw [Shape.rowMajor_val_three, Shape.rowMajor_val_two]
    show (4 * (k.val / 60) + p.val) * 60 + k.val % 60 = (k.val / 60 * 4 + p.val) * 60 + k.val % 60
    omega

theorem host2_v17 (p : Fin 4) :
    (StableHlo.after hostOps2 W main_v17 : Vec F S4 .i32) (ix1 p) = (W main_v13_1 : Vec F S4x1 .i32) (ix2 p 0) := by
  have e : (StableHlo.after hostOps2 W main_v17 : Vec F S4 .i32) = shapeCast S4 (W main_v13_1 : Vec F S4x1 .i32) shapeCasts_S4x1_S4 := by
    after_results <;> rfl
  rw [e]
  refine shapeCast_apply (s := S4x1) _ _ _ _ ?_
  rw [Shape.rowMajor_val_one, Shape.rowMajor_val_two]
  show p.val * 1 + 0 = p.val
  omega

theorem host3_v19 (p : Fin 4) :
    (StableHlo.after hostOps3 W main_v19 : Vec F S4 .i32) (ix1 p) = (W main_v18_1 : Vec F S4x1x1 .i32) (ix3 p 0 0) := by
  have e : (StableHlo.after hostOps3 W main_v19 : Vec F S4 .i32) = shapeCast S4 (W main_v18_1 : Vec F S4x1x1 .i32) shapeCasts_S4x1x1_S4 := by
    after_results <;> rfl
  rw [e]
  refine shapeCast_apply (s := S4x1x1) _ _ _ _ ?_
  rw [Shape.rowMajor_val_one, Shape.rowMajor_val_three]
  show (p.val * 1 + 0) * 1 + 0 = p.val
  omega

/-! ## The results -/

variable (m : (ℓ : Loc nD τ sig) → Buf (Elt F) ℓ)

theorem W2_v8 (c : Dev nD) : (W2 m c main_v8 : Vec F S1620x4x960 .f32)
    = Finals.mix (F := F) (rowsFirst (F := F) (m ((c : Thread nD τ).loc main_arg2))) (rowsFirst (F := F) (m ((c : Thread nD τ).loc main_arg3)))
      (rowsFirst (F := F) (m ((c : Thread nD τ).loc main_arg4))) (rowsFirst (F := F) (m ((c : Thread nD τ).loc main_arg5))) := by
  have h : W2 m c main_v8 = (Ew.dat (V1 m) c).arrAt 4 cfg0.N := by
    unfold W2
    exact Pipeline.afterRegion_arr (Ew.dat (V1 m) c) (W1 m c) launch0.win.arr_inj 4
  rw [h, Finals.ew_final (V1 m) c]
  exact congr (congr (congr (congrArg _ (host0_v1 (W0 m c))) (host0_v3 (W0 m c))) (host0_v5 (W0 m c))) (host0_v7 (W0 m c))

/-- The reweighted image. -/
theorem W7_v10 (c : Dev nD) (j : S4x3x540x960.Idx) : (W7 m c main_v10 : Vec F S4x3x540x960 .f32) j
    = FloatOps.addf (FloatOps.mulf ((m ((c : Thread nD τ).loc main_arg2) : Vec F S4x3x540x960 .f32) j) ((m ((c : Thread nD τ).loc main_arg3) : Vec F S4x3x540x960 .f32) j))
      (FloatOps.mulf ((m ((c : Thread nD τ).loc main_arg4) : Vec F S4x3x540x960 .f32) j) ((m ((c : Thread nD τ).loc main_arg5) : Vec F S4x3x540x960 .f32) j)) := by
  have h6 : W7 m c main_v10 = W6 m c main_v10 := StableHlo.after_of_writes_sub hostOps3 _ hostOps3_writes (by decide)
  have h5 : W6 m c main_v10 = W5 m c main_v10 := by
    unfold W6; exact Pipeline.afterRegion_of_not_arr _ _ (by decide)
  have h4 : W5 m c main_v10 = W4 m c main_v10 := StableHlo.after_of_writes_sub hostOps2 _ hostOps2_writes (by decide)
  have h3 : W4 m c main_v10 = W3 m c main_v10 := by
    unfold W4; exact Pipeline.afterRegion_of_not_arr _ _ (by decide)
  rw [h6, h5, h4, h3]
  obtain ⟨p, ch, h, w, rfl⟩ : ∃ (p : Fin 4) (ch : Fin 3) (h : Fin 540) (w : Fin 960), j = ix4 p ch h w := ⟨_, _, _, _, eq_ix4 j⟩
  refine (host1_v10 (W2 m c) p ch h w).trans ?_
  rw [W2_v8]
  unfold Finals.mix
  rw [rowsFirst_apply, rowsFirst_apply, rowsFirst_apply, rowsFirst_apply]

/-- The counts the tile call finds. -/
theorem W3_v12 (c : Dev nD) (h : Fin 270) (a : Fin 2) (p : Fin 4) (k : Fin 960) :
    (W3 m c main_v12 : Vec F S270x2x4x960 .i32) (ix4 h a p k)
      = (m ((c : Thread nD τ).loc main_arg0) : Vec F S4x540x960 .i32) (ix3 p (⟨2 * h.val + a.val, by omega⟩ : Fin 540) k) := by
  refine (host1_v12 (W2 m c) h a p k).trans ?_
  rw [W2_args m c main_arg0 (by decide)]

/-- The flags the visibility call finds. -/
theorem hit_args (c : Dev nD) (r : Fin 4) : Vis.hit (V5 m) c r = rowAt (m ((c : Thread nD τ).loc main_arg1) : IVec S4x500000 32) r := by
  have h : Vis.hits (V5 m) c = (m ((c : Thread nD τ).loc main_arg1) : IVec S4x500000 32) := W5_args m c main_arg1 (by decide)
  funext j
  unfold Vis.hit rowAt
  rw [h]

/-- The visibility map. -/
theorem W7_v18_0 (c : Dev nD) (p : Fin 4) (k : Fin 500000) : (W7 m c main_v18_0 : IVec S4x500000 32) (ix2 p k)
    = upto (rowAt (m ((c : Thread nD τ).loc main_arg1) : IVec S4x500000 32) p) (k.val + 1) - 1#32 := by
  have h6 : W7 m c main_v18_0 = W6 m c main_v18_0 := StableHlo.after_of_writes_sub hostOps3 _ hostOps3_writes (by decide)
  have h5 : W6 m c main_v18_0 = (Vis.dat (V5 m) c).arrAt 1 cfg2.N := by
    unfold W6
    exact Pipeline.afterRegion_arr (Vis.dat (V5 m) c) (W5 m c) launch2.win.arr_inj 1
  rw [h6, h5, Finals.vis_final_1 (V5 m) c, ← hit_args]
  rfl

/-- The visible counts. -/
theorem W7_v19 (c : Dev nD) (p : Fin 4) : (W7 m c main_v19 : IVec S4 32) (ix1 p)
    = upto (rowAt (m ((c : Thread nD τ).loc main_arg1) : IVec S4x500000 32) p) 500000 := by
  have h5 : W6 m c main_v18_1 = (Vis.dat (V5 m) c).arrAt 2 cfg2.N := by
    unfold W6
    exact Pipeline.afterRegion_arr (Vis.dat (V5 m) c) (W5 m c) launch2.win.arr_inj 2
  refine (host3_v19 (W6 m c) p).trans ?_
  rw [h5, Finals.vis_final_2 (V5 m) c, ← hit_args]
  rfl

section Counts

variable (m : (ℓ : Loc nD τ sig) → Buf (Elt Ideal) ℓ) (c : Dev nD)
  (hm : ∀ j, ((m ((c : Thread nD τ).loc main_arg0) : IVec S4x540x960 32) j).toNat < 64)
include hm

/-- The tile call's tile sums are those of the counts. -/
theorem tiles_found (r : Fin 1080) (q : Fin 60) :
    Tile.base (F := Ideal) (W3 m c main_v12) (ix2 r q)
      = tile (m ((c : Thread nD τ).loc main_arg0) : IVec S4x540x960 32) (⟨r.val % 4, by omega⟩ : Fin 4) (r.val / 4) q.val := by
  have hr := r.isLt
  have hx : ∀ j, ((W3 m c main_v12 : IVec S270x2x4x960 32) j).toNat < 64 := fun j => by
    obtain ⟨h, a, p, k, rfl⟩ : ∃ (h : Fin 270) (a : Fin 2) (p : Fin 4) (k : Fin 960), j = ix4 h a p k := ⟨_, _, _, _, eq_ix4 j⟩
    have e := W3_v12 m c h a p k
    refine lt_of_eq_of_lt (congrArg BitVec.toNat e) (hm _)
  refine Tile.base_apply (W3 m c main_v12) hx
    (fun a k => cell (m ((c : Thread nD τ).loc main_arg0) : IVec S4x540x960 32) (⟨r.val % 4, by omega⟩ : Fin 4) (2 * (r.val / 4) + a) k) r q fun a k => ?_
  refine (W3_v12 m c _ a _ k).trans ?_
  exact (cell_fin (m ((c : Thread nD τ).loc main_arg0) : IVec S4x540x960 32) (⟨r.val % 4, by omega⟩ : Fin 4)
    (⟨2 * (r.val / 4) + a.val, by omega⟩ : Fin 540) k).symm

/-- The tile sums by rows of the tile call's matrix, as sequences. -/
def byRow (x : IVec S4x540x960 32) (r k : ℕ) : BitVec 32 := tile x (⟨r % 4, Nat.mod_lt _ (by decide)⟩ : Fin 4) (r / 4) k

omit hm in
theorem along_byRow (x : IVec S4x540x960 32) (p : Fin 4) : Tile.along (byRow x) p.val = flat x p := by
  funext k
  have hp := p.isLt
  have e : (⟨(4 * (k / 60) + p.val) % 4, Nat.mod_lt _ (by decide)⟩ : Fin 4) = p := Fin.ext (by show (4 * (k / 60) + p.val) % 4 = p.val; omega)
  have e' : (4 * (k / 60) + p.val) / 4 = k / 60 := by omega
  unfold Tile.along byRow flat
  rw [e, e']

/-- The sums over the tiles before each. -/
theorem W7_v16 (p : Fin 4) (k : Fin 16200) : (W7 m c main_v16 : IVec S4x16200 32) (ix2 p k)
    = upto (flat (m ((c : Thread nD τ).loc main_arg0) : IVec S4x540x960 32) p) k.val := by
  have hk := k.isLt
  have hp := p.isLt
  have h6 : W7 m c main_v16 = W6 m c main_v16 := StableHlo.after_of_writes_sub hostOps3 _ hostOps3_writes (by decide)
  have h5 : W6 m c main_v16 = W5 m c main_v16 := by
    unfold W6; exact Pipeline.afterRegion_of_not_arr _ _ (by decide)
  have h3 : W4 m c main_v13_0 = (Tile.dat (V3 m) c).arrAt 1 cfg1.N := by
    unfold W4
    exact Pipeline.afterRegion_arr (Tile.dat (V3 m) c) (W3 m c) launch1.win.arr_inj 1
  rw [h6, h5]
  refine (host2_v16 (W4 m c) p k).trans ?_
  rw [h3, Finals.tile_final_1 (V3 m) c]
  refine (Tile.excl_apply (u := byRow (m ((c : Thread nD τ).loc main_arg0) : IVec S4x540x960 32)) (fun r q => tiles_found m c hm r q) _ _).trans ?_
  show upto (Tile.along _ ((4 * (k.val / 60) + p.val) % 4)) (60 * ((4 * (k.val / 60) + p.val) / 4) + k.val % 60) = _
  rw [show (4 * (k.val / 60) + p.val) % 4 = p.val by omega, show (4 * (k.val / 60) + p.val) / 4 = k.val / 60 by omega,
    show 60 * (k.val / 60) + k.val % 60 = k.val by omega, along_byRow]

/-- The sums over all tiles. -/
theorem W7_v17 (p : Fin 4) : (W7 m c main_v17 : IVec S4 32) (ix1 p)
    = upto (flat (m ((c : Thread nD τ).loc main_arg0) : IVec S4x540x960 32) p) 16200 := by
  have h6 : W7 m c main_v17 = W6 m c main_v17 := StableHlo.after_of_writes_sub hostOps3 _ hostOps3_writes (by decide)
  have h5 : W6 m c main_v17 = W5 m c main_v17 := by
    unfold W6; exact Pipeline.afterRegion_of_not_arr _ _ (by decide)
  have h3 : W4 m c main_v13_1 = (Tile.dat (V3 m) c).arrAt 2 cfg1.N := by
    unfold W4
    exact Pipeline.afterRegion_arr (Tile.dat (V3 m) c) (W3 m c) launch1.win.arr_inj 2
  rw [h6, h5]
  refine (host2_v17 (W4 m c) p).trans ?_
  rw [h3, Finals.tile_final_2 (V3 m) c]
  refine (Tile.grand_apply (u := byRow (m ((c : Thread nD τ).loc main_arg0) : IVec S4x540x960 32)) (fun r q => tiles_found m c hm r q) p).trans ?_
  rw [along_byRow]

end Counts

end Cert.KernelIdeal.Whole

end
-- ==== Proof.RefValues.lean ====
/-
  The reference's four integer results, read at an entry: prefix sums of the tile sums of the counts, the whole sum,
  and the running sums of the visibility flags.
-/
module

public import proofs.«01_k».proof.Proof.HostSums
public import proofs.«01_k».proof.Proof.Gen.ReferenceIdeal.Read
public import Idealize.ShloMosaic.Lib.KernelVsHost

@[expose] public section

noncomputable section

namespace Cert.ReferenceIdeal.Values

open Cert.ReferenceIdeal Cert.ReferenceIdeal.Gen Cert.ReferenceIdeal.Read Idealize.ShloMosaic Idealize.ShloMosaic.StableHlo
open Cert.Scan Cert.HostSums

variable {F : FTy → Type} [FloatOps F]

variable (x0 : IVec S4x540x960 32) (x1 : IVec S4x500000 32)

/-- No entry is added by the padding. -/
theorem padded (j : S4x540x960.Idx) : val_main_v3 (F := F) x0 j = x0 j := by
  unfold val_main_v3
  refine pad_apply_of_inside _ _ _ x0 _ _ _ j j fun a => ?_
  match a with
  | ⟨0, _⟩ => show (j 0).val = 0 + (j 0).val * (0 + 1); omega
  | ⟨1, _⟩ => show (j 1).val = 0 + (j 1).val * (0 + 1); omega
  | ⟨2, _⟩ => show (j 2).val = 0 + (j 2).val * (0 + 1); omega

theorem tiled (p : Fin 4) (h : Fin 270) (a : Fin 2) (w : Fin 60) (b : Fin 16) :
    val_main_v4 (F := F) x0 (ix5 p h a w b) = cell x0 p (2 * h.val + a.val) (16 * w.val + b.val) := by
  have hh := h.isLt
  have hw := w.isLt
  have ha := a.isLt
  have hb := b.isLt
  have hp := p.isLt
  rw [val_main_v4_apply, padded]
  unfold cell
  rw [dif_pos ⟨by omega, by omega⟩]
  refine congrArg x0 (funext fun d => Fin.ext ?_)
  match d with
  | ⟨0, _⟩ => show ((((p.val * 270 + h.val) * 2 + a.val) * 60 + w.val) * 16 + b.val) / 518400 = p.val; omega
  | ⟨1, _⟩ => show ((((p.val * 270 + h.val) * 2 + a.val) * 60 + w.val) * 16 + b.val) / 960 % 540 = 2 * h.val + a.val; omega
  | ⟨2, _⟩ => show ((((p.val * 270 + h.val) * 2 + a.val) * 60 + w.val) * 16 + b.val) % 960 = 16 * w.val + b.val; omega

theorem tiles (p : Fin 4) (h : Fin 270) (w : Fin 60) : val_main_v5 (F := F) x0 (ix3 p h w) = tile x0 p h.val w.val := by
  unfold val_main_v5
  rw [tile_sum (val_main_v4 (F := F) x0) _ rfl]
  exact Finset.sum_congr rfl fun a _ => Finset.sum_congr rfl fun b _ => tiled (F := F) x0 p h a w b

theorem flattened (p : Fin 4) (k : Fin 16200) : val_main_v6 (F := F) x0 (ix2 p k) = flat x0 p k.val := by
  have hp := p.isLt
  have hk := k.isLt
  rw [val_main_v6_apply]
  refine Eq.trans (congrArg _ (?_ : _ = ix3 p ⟨k.val / 60, by omega⟩ ⟨k.val % 60, by omega⟩)) (tiles (F := F) x0 p _ _)
  funext d
  refine Fin.ext ?_
  match d with
  | ⟨0, _⟩ => show (p.val * 16200 + k.val) / 16200 = p.val; omega
  | ⟨1, _⟩ => show (p.val * 16200 + k.val) / 60 % 270 = k.val / 60; omega
  | ⟨2, _⟩ => show (p.val * 16200 + k.val) % 60 = k.val % 60; omega

theorem row_tiles (p : Fin 4) {n : ℕ} (hn : n ≤ 16200) :
    upto (rowAt (val_main_v6 (F := F) x0) p) n = upto (flat x0 p) n :=
  upto_congr fun k hk => (rowAt_fin _ p (⟨k, by omega⟩ : Fin 16200)).trans (flattened (F := F) x0 p ⟨k, by omega⟩)

theorem running (p : Fin 4) (k : Fin 16200) : val_main_v7 (F := F) x0 (ix2 p k) = upto (flat x0 p) (k.val + 1) := by
  have hk := k.isLt
  unfold val_main_v7
  exact (cumsum_row (by rfl) _ _ rfl _ _ p k).trans (row_tiles (F := F) x0 p (by omega))

/-- The prefix sums: entry `k` is the sum of the tiles before tile `k`. -/
theorem prefix_sums (p : Fin 4) (k : Fin 16200) : val_main_v13 (F := F) x0 (ix2 p k) = upto (flat x0 p) k.val := by
  have hk := k.isLt
  unfold val_main_v13
  by_cases h : k.val = 0
  · rw [h, upto_zero]
    refine (concatenate_pair_apply_left (t := S4x16200) (s₁ := S4x1) (s₂ := S4x16199) (1 : Fin 2) (val_main_v12 (F := F)) (val_main_v10 (F := F) x0) _ (ix2 p k) rfl (ix2 p 0) fun b => ?_).trans rfl
    match b with
    | ⟨0, _⟩ => rfl
    | ⟨1, _⟩ => exact h.symm
  · refine (concatenate_pair_apply_right (t := S4x16200) (s₁ := S4x1) (s₂ := S4x16199) (1 : Fin 2) (val_main_v12 (F := F)) (val_main_v10 (F := F) x0) _ (ix2 p k) rfl rfl (ix2 p (⟨k.val - 1, by omega⟩ : Fin 16199)) (fun b hb => ?_) ?_).trans ?_
    · match b with
      | ⟨0, _⟩ => rfl
      | ⟨1, _⟩ => exact absurd rfl hb
    · show k.val - 1 + 1 = k.val
      omega
    · rw [val_main_v10_apply]
      refine Eq.trans (congrArg _ (?_ : _ = ix2 p (⟨k.val - 1, by omega⟩ : Fin 16200))) ((running (F := F) x0 p _).trans ?_)
      · funext d
        match d with
        | ⟨0, _⟩ => rfl
        | ⟨1, _⟩ => rfl
      · show upto _ (k.val - 1 + 1) = _
        rw [show k.val - 1 + 1 = k.val by omega]

/-- The whole sum of an image's tiles. -/
theorem whole_sum (p : Fin 4) : val_main_v9 (F := F) x0 (ix1 p) = upto (flat x0 p) 16200 := by
  rw [val_main_v9_apply, val_main_v8_apply]
  refine Eq.trans (congrArg _ (?_ : _ = ix2 p (⟨16199, by omega⟩ : Fin 16200))) (running (F := F) x0 p _)
  funext d
  refine Fin.ext ?_
  match d with
  | ⟨0, _⟩ => show p.val / 1 = p.val; omega
  | ⟨1, _⟩ => rfl

theorem flags (p : Fin 4) (k : Fin 500000) : val_main_v14 (F := F) x1 (ix2 p k) = upto (rowAt x1 p) (k.val + 1) := by
  unfold val_main_v14
  exact cumsum_row (by rfl) _ _ rfl _ _ p k

/-- The map: the running sum of the flags, less one. -/
theorem flag_map (p : Fin 4) (k : Fin 500000) : val_main_v18 (F := F) x1 (ix2 p k) = upto (rowAt x1 p) (k.val + 1) - 1#32 := by
  rw [val_main_v18_apply, flags]
  rfl

/-- The number of flags of an image. -/
theorem flag_count (p : Fin 4) : val_main_v16 (F := F) x1 (ix1 p) = upto (rowAt x1 p) 500000 := by
  rw [val_main_v16_apply, val_main_v15_apply]
  refine Eq.trans (congrArg _ (?_ : _ = ix2 p (⟨499999, by omega⟩ : Fin 500000))) (flags (F := F) x1 p _)
  funext d
  refine Fin.ext ?_
  match d with
  | ⟨0, _⟩ => show p.val / 1 = p.val; omega
  | ⟨1, _⟩ => rfl

end Cert.ReferenceIdeal.Values

end
-- ==== Proof.Agree.lean ====
/-
  The two programs' results as the same terms of the arguments: the precondition read as a bound on every count, the
  kernel's five result buffers equal to the reference's five results, and the value claim.
-/
module

public import proofs.«01_k».proof.Defs
public import proofs.«01_k».proof.Proof.Results
public import proofs.«01_k».proof.Proof.RefValues
public import proofs.«01_k».proof.Proof.Gen.ReferenceIdeal.Run
public import proofs.«01_k».proof.Proof.Gen.Pre_counts_in_range
public import Idealize.ShloMosaic.Lib.ReduceAll

@[expose] public section

set_option maxRecDepth 16384

noncomputable section

namespace Cert.Agree

open Cert.KernelIdeal Cert.KernelIdeal.Gen Cert.KernelIdeal.Whole Idealize.ShloMosaic Idealize.ShloMosaic.TcCoe Idealize.SL.Sem
open Cert.ReferenceIdeal.Read Cert.ReferenceIdeal.Values Cert.Scan Cert.HostSums

variable (m : (ℓ : Loc nD τ sig) → Buf (Elt Ideal) ℓ)

/-- A word that is at least 0 and less than 64 as a signed word is below 64. -/
theorem small_of_bits (v : BitVec 32) (e : IntOp.andi (IntOp.cmpi .sge v 0#32) (IntOp.cmpi .slt v 64#32) = 1#1) : v.toNat < 64 := by
  have both : ∀ p q : BitVec 1, IntOp.andi p q = 1#1 → p = 1#1 ∧ q = 1#1 := by decide
  obtain ⟨e₁, e₂⟩ := both _ _ e
  have h₁ := IntOp.cmpi_sge.1 e₁
  have h₂ := IntOp.cmpi_slt.1 e₂
  simp only [BitVec.toInt_eq_toNat_cond, BitVec.toNat_ofNat, Nat.reducePow, Nat.reduceMod] at h₁ h₂
  omega

instance : Subsingleton Cert.Pre_counts_in_range.S_.Idx := ⟨fun a b => funext fun d => d.elim0⟩

/-- The precondition bounds every count. -/
theorem counts_small (h : Cert.Pre_KernelIdeal_counts_in_range m) (c : Dev nD) (j : S4x540x960.Idx) :
    ((m ((c : Thread nD τ).loc main_arg0) : IVec S4x540x960 32) j).toNat < 64 := by
  have e := congrFun (h c) (fun d => d.elim0)
  exact small_of_bits _ (Host.reduce_andi_all _ _ _ _ _ e j)

/-- The reweighted image. -/
theorem weighted (c : Dev nD) : (W7 m c main_v10 : Vec Ideal S4x3x540x960 .f32)
    = val_main_v2 (F := Ideal) (m ((c : Thread nD τ).loc main_arg2)) (m ((c : Thread nD τ).loc main_arg3))
      (m ((c : Thread nD τ).loc main_arg4)) (m ((c : Thread nD τ).loc main_arg5)) :=
  funext fun j => W7_v10 m c j

/-- The sums over the tiles before each. -/
theorem tile_offsets (h : Cert.Pre_KernelIdeal_counts_in_range m) (c : Dev nD) : (W7 m c main_v16 : IVec S4x16200 32)
    = val_main_v13 (F := Ideal) (m ((c : Thread nD τ).loc main_arg0)) := by
  funext j
  obtain ⟨p, k, rfl⟩ : ∃ (p : Fin 4) (k : Fin 16200), j = ix2 p k := ⟨_, _, eq_ix2 j⟩
  exact (W7_v16 m c (counts_small m h c) p k).trans (prefix_sums (F := Ideal) (m ((c : Thread nD τ).loc main_arg0)) p k).symm

/-- The sums over all tiles. -/
theorem tile_totals (h : Cert.Pre_KernelIdeal_counts_in_range m) (c : Dev nD) : (W7 m c main_v17 : IVec S4 32)
    = val_main_v9 (F := Ideal) (m ((c : Thread nD τ).loc main_arg0)) := by
  funext j
  obtain ⟨p, rfl⟩ : ∃ p : Fin 4, j = ix1 p := ⟨_, eq_ix1 j⟩
  exact (W7_v17 m c (counts_small m h c) p).trans (whole_sum (F := Ideal) (m ((c : Thread nD τ).loc main_arg0)) p).symm

/-- The visibility map. -/
theorem places (c : Dev nD) : (W7 m c main_v18_0 : IVec S4x500000 32)
    = val_main_v18 (F := Ideal) (m ((c : Thread nD τ).loc main_arg1)) := by
  funext j
  obtain ⟨p, k, rfl⟩ : ∃ (p : Fin 4) (k : Fin 500000), j = ix2 p k := ⟨_, _, eq_ix2 j⟩
  exact (W7_v18_0 m c p k).trans (flag_map (F := Ideal) (m ((c : Thread nD τ).loc main_arg1)) p k).symm

/-- The numbers of visible points. -/
theorem visible (c : Dev nD) : (W7 m c main_v19 : IVec S4 32)
    = val_main_v16 (F := Ideal) (m ((c : Thread nD τ).loc main_arg1)) := by
  funext j
  obtain ⟨p, rfl⟩ : ∃ p : Fin 4, j = ix1 p := ⟨_, eq_ix1 j⟩
  exact (W7_v19 m c p).trans (flag_count (F := Ideal) (m ((c : Thread nD τ).loc main_arg1)) p).symm

/-- From memories that agree on the arguments, with every count below 64, both programs end at the same five results. -/
theorem algebraic : Cert.algebraic_KernelIdeal_ReferenceIdeal_pre_counts_in_range := by
  intro m g m' g' hp hargs
  refine ⟨fun c : Dev nD => W7 m c main_v10, fun c : Dev nD => W7 m c main_v16, fun c : Dev nD => W7 m c main_v17, fun c : Dev nD => W7 m c main_v18_0,
    fun c : Dev nD => W7 m c main_v19, ?_, ?_⟩
  · refine (θ_run Cert.KernelIdeal.defs _ _).mono (fun r h c => ?_) (run m g)
    have hv : ∀ b : Ref sig .tc, ¬ (Proc.devRef .tc b : DevRef τ sig).isScoped →
        r.2.mem ((c.tc : Thread nD τ).loc b) = W7 m c b := fun b hs => h.1 c _ (mem_uc b hs)
    have ha : ∀ b : Ref sig .tc, b ∈ argRefs → ¬ (Proc.devRef .tc b : DevRef τ sig).isScoped →
        r.2.mem ((c.tc : Thread nD τ).loc b) = m ((c.tc : Thread nD τ).loc b) := fun b hb hs => (hv b hs).trans (W7_args m c b hb)
    exact ⟨hv main_v10 (by decide), hv main_v16 (by decide), hv main_v17 (by decide), hv main_v18_0 (by decide), hv main_v19 (by decide),
      ha main_arg0 (by decide) (by decide), ha main_arg1 (by decide) (by decide), ha main_arg2 (by decide) (by decide),
      ha main_arg3 (by decide) (by decide), ha main_arg4 (by decide) (by decide), ha main_arg5 (by decide) (by decide)⟩
  · refine (θ_run Cert.ReferenceIdeal.defs _ _).mono (fun r h c => ?_) (Cert.ReferenceIdeal.Value.run (F := Ideal) m' g')
    obtain ⟨r0, r1, r2, r3, r4, rest⟩ := h c
    obtain ⟨a0, a1, a2, a3, a4, a5⟩ := hargs c
    refine ⟨r0.trans ?_, r1.trans ?_, r2.trans ?_, r3.trans ?_, r4.trans ?_, rest⟩
    · rw [val_main_v2_eq, a2, a3, a4, a5]; exact (weighted m c).symm
    · rw [val_main_v13_eq, a0]; exact (tile_offsets m hp c).symm
    · rw [val_main_v9_eq, a0]; exact (tile_totals m hp c).symm
    · rw [val_main_v18_eq, a1]; exact (places m c).symm
    · rw [val_main_v16_eq, a1]; exact (visible m c).symm

end Cert.Agree

end
-- ==== Proof.lean ====
/-
  The certificate's claim, assembled: each frame from the run of its program, the sanction of the ideal reading, and
  the equality of the kernel's results with the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_counts_in_range
public import proofs.«01_k».proof.Proof.Transfer
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The reference's run leaves its arguments as launched; it declares no semaphore, so no counter is raised. -/
theorem reference_frame : Cert.quiescent_ReferenceIdeal := by
  intro m ρ _
  exact (θ_run Cert.ReferenceIdeal.defs _ _).mono
    (fun r h => ⟨fun c => (h c).2.2.2.2.2, Idealize.ShloMosaic.sem_eq_zero_of_no_sems (by decide) r.2⟩)
    (Cert.ReferenceIdeal.Value.run (F := Ideal) m ρ)

/-- The kernel's two runs, the reference's run, the sanction of the reading over the extended reals, and the equality
    of the results. A frame under the precondition is the frame without it. -/
theorem claim : Cert.Claim := ⟨Cert.Kernel.Gen.facts, Cert.KernelIdeal.Gen.facts, Cert.ReferenceIdeal.Gen.facts,
  Cert.Pre_counts_in_range.Gen.facts,
  fun m ρ _ => Cert.Kernel.Whole.frame (F := Bits) m ρ,
  fun m ρ _ => Cert.KernelIdeal.Whole.frame (F := Ideal) m ρ,
  fun m ρ _ => Cert.KernelIdeal.Whole.frame (F := Ideal) m ρ,
  reference_frame, fun m ρ _ => reference_frame m ρ trivial, trivial, Cert.Agree.algebraic⟩

end Cert.Proof

end
